-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "chunk_rate" .f32 0xC0A4AA2A#32 ((512 * (Real.log (99 / 100)) : ℝ) : EReal)

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S16x8192x512 : Shape := ⟨3, ![16, 8192, 512]⟩
abbrev S1x512 : Shape := ⟨2, ![1, 512]⟩
abbrev S_ : Shape := ⟨0, ![]⟩

class Facts : Prop where
  bcast_S_S16x8192x512 : S_.BroadcastsInDim S16x8192x512 (![] : Fin 0 → Fin S16x8192x512.rank)

variable [Facts]

def fn {F : FTy → Type} [FloatOps F] (main_arg0 : FVec F S16x8192x512 .f32) (main_arg1 : FVec F S1x512 .f32) (main_arg2 : FVec F S1x512 .f32) : IVec S16x8192x512 1 :=
  let main_v0 : FVec F S16x8192x512 .f32 := Host.absf main_arg0
  let main_cst : FVec F S_ .f32 := constant S_ .f32 0x7F800000#32
  let main_v1 : FVec F S16x8192x512 .f32 := broadcastInDim S16x8192x512 ![] bcast_S_S16x8192x512 main_cst
  let main_v2 : IVec S16x8192x512 1 := cmpf .olt main_v0 main_v1
  main_v2
-- ==== Kernel.lean ====
abbrev S16x8192x512 : Shape := ⟨3, ![16, 8192, 512]⟩
abbrev S1x512 : Shape := ⟨2, ![1, 512]⟩
abbrev S_ : Shape := ⟨0, ![]⟩
abbrev S512 : Shape := ⟨1, ![512]⟩
abbrev S512x1 : Shape := ⟨2, ![512, 1]⟩
abbrev S512x512 : Shape := ⟨2, ![512, 512]⟩
abbrev S1x4096x512 : Shape := ⟨3, ![1, 4096, 512]⟩
abbrev S1x512x512 : Shape := ⟨3, ![1, 512, 512]⟩

abbrev nBuf : Space → Nat
  | .hbm => 38
  | .vmem => 9
  | .smem => 0
  | _ => 0

abbrev bufTy : (tb : Table) → Fin (tcTables nBuf tb) → BufTy
  | .hbm, ⟨0, _⟩ => ⟨S16x8192x512, .f32⟩
  | .hbm, ⟨1, _⟩ => ⟨S1x512, .f32⟩
  | .hbm, ⟨2, _⟩ => ⟨S1x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S512, .i32⟩
  | .hbm, ⟨7, _⟩ => ⟨S512x1, .i32⟩
  | .hbm, ⟨8, _⟩ => ⟨S1x512, .i32⟩
  | .hbm, ⟨9, _⟩ => ⟨S512x512, .i32⟩
  | .hbm, ⟨10, _⟩ => ⟨S512x512, .i32⟩
  | .hbm, ⟨11, _⟩ => ⟨S512x512, .i1⟩
  | .hbm, ⟨12, _⟩ => ⟨S512x1, .i32⟩
  | .hbm, ⟨13, _⟩ => ⟨S1x512, .i32⟩
  | .hbm, ⟨14, _⟩ => ⟨S512x512, .i32⟩
  | .hbm, ⟨15, _⟩ => ⟨S512x512, .i32⟩
  | .hbm, ⟨16, _⟩ => ⟨S512x512, .i32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S_, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S512x1, .f32⟩
  | .hbm, ⟨36, _⟩ => ⟨S512x512, .f32⟩
  | .hbm, ⟨37, _⟩ => ⟨S16x8192x512, .f32⟩
  | .local _ .vmem, ⟨0, _⟩ => ⟨S1x4096x512, .f32⟩
  | .local _ .vmem, ⟨1, _⟩ => ⟨S1x4096x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1x4096x512, .f32⟩
  | .local _ .vmem, ⟨7, _⟩ => ⟨S1x4096x512, .f32⟩
  | .local _ .vmem, ⟨8, _⟩ => ⟨S1x512, .f32⟩
  | _, _ => ⟨S16x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_cst_1 : Ref sig .tc := ⟨.hbm, 21, rfl⟩
abbrev main_call0_v16 : Ref sig .tc := ⟨.hbm, 22, rfl⟩
abbrev main_call0_v17 : Ref sig .tc := ⟨.hbm, 23, rfl⟩
abbrev main_call0_cst_2 : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_v18 : Ref sig .tc := ⟨.hbm, 27, rfl⟩
abbrev main_call0_c : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_v0 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "chunk_rate" => some ((512 * (Real.log (99 / 100)) : ℝ) : EReal)
  | _ => none
-- ==== ReferenceIdeal.lean ====
abbrev S16x8192x512 : Shape := ⟨3, ![16, 8192, 512]⟩
abbrev S1x512 : Shape := ⟨2, ![1, 512]⟩
abbrev S_ : Shape := ⟨0, ![]⟩
abbrev S16x512 : Shape := ⟨2, ![16, 512]⟩
abbrev S8192x16x512 : Shape := ⟨3, ![8192, 16, 512]⟩
abbrev S1x16x512 : Shape := ⟨3, ![1, 16, 512]⟩
abbrev S8192 : Shape := ⟨1, ![8192]⟩
abbrev S1x8192x1 : Shape := ⟨3, ![1, 8192, 1]⟩
abbrev S16x8192 : Shape := ⟨2, ![16, 8192]⟩
abbrev S16x8192x1 : Shape := ⟨3, ![16, 8192, 1]⟩
abbrev S1x1x512 : Shape := ⟨3, ![1, 1, 512]⟩

abbrev nBuf : Space → Nat
  | .hbm => 77
  | .vmem => 0
  | .smem => 0
  | _ => 0

abbrev bufTy : (tb : Table) → Fin (tcTables nBuf tb) → BufTy
  | .hbm, ⟨0, _⟩ => ⟨S16x8192x512, .f32⟩
  | .hbm, ⟨1, _⟩ => ⟨S1x512, .f32⟩
  | .hbm, ⟨2, _⟩ => ⟨S1x512, .f32⟩
  | .hbm, ⟨3, _⟩ => ⟨S_, .f32⟩
  | .hbm, ⟨4, _⟩ => ⟨S16x512, .f32⟩
  | .hbm, ⟨5, _⟩ => ⟨S8192x16x512, .f32⟩
  | .hbm, ⟨6, _⟩ => ⟨S_, .f32⟩
  | .hbm, ⟨7, _⟩ => ⟨S8192x16x512, .f32⟩
  | .hbm, ⟨8, _⟩ => ⟨S_, .i32⟩
  | .hbm, ⟨9, _⟩ => ⟨S8192x16x512, .f32⟩
  | .hbm, ⟨10, _⟩ => ⟨S_, .i32⟩
  | .hbm, ⟨11, _⟩ => ⟨S16x512, .f32⟩
  | .hbm, ⟨12, _⟩ => ⟨S8192x16x512, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S1x16x512, .f32⟩
  | .hbm, ⟨18, _⟩ => ⟨S16x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16x512, .f32⟩
  | .hbm, ⟨23, _⟩ => ⟨S16x512, .f32⟩
  | .hbm, ⟨24, _⟩ => ⟨S_, .f32⟩
  | .hbm, ⟨25, _⟩ => ⟨S16x512, .f32⟩
  | .hbm, ⟨26, _⟩ => ⟨S16x512, .f32⟩
  | .hbm, ⟨27, _⟩ => ⟨S16x512, .f32⟩
  | .hbm, ⟨28, _⟩ => ⟨S16x512, .f32⟩
  | .hbm, ⟨29, _⟩ => ⟨S1x16x512, .f32⟩
  | .hbm, ⟨30, _⟩ => ⟨S_, .i32⟩
  | .hbm, ⟨31, _⟩ => ⟨S_, .i32⟩
  | .hbm, ⟨32, _⟩ => ⟨S8192x16x512, .f32⟩
  | .hbm, ⟨33, _⟩ => ⟨S_, .i32⟩
  | .hbm, ⟨34, _⟩ => ⟨S_, .i32⟩
  | .hbm, ⟨35, _⟩ => ⟨S16x8192x512, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S1x8192x1, .f32⟩
  | .hbm, ⟨49, _⟩ => ⟨S_, .f32⟩
  | .hbm, ⟨50, _⟩ => ⟨S1x8192x1, .f32⟩
  | .hbm, ⟨51, _⟩ => ⟨S1x8192x1, .f32⟩
  | .hbm, ⟨52, _⟩ => ⟨S16x8192x512, .f32⟩
  | .hbm, ⟨53, _⟩ => ⟨S16x8192x512, .f32⟩
  | .hbm, ⟨54, _⟩ => ⟨S_, .f32⟩
  | .hbm, ⟨55, _⟩ => ⟨S16x8192x512, .f32⟩
  | .hbm, ⟨56, _⟩ => ⟨S16x8192x512, .f32⟩
  | .hbm, ⟨57, _⟩ => ⟨S16x8192x512, .f32⟩
  | .hbm, ⟨58, _⟩ => ⟨S_, .f32⟩
  | .hbm, ⟨59, _⟩ => ⟨S16x8192, .f32⟩
  | .hbm, ⟨60, _⟩ => ⟨S16x8192x1, .f32⟩
  | .hbm, ⟨61, _⟩ => ⟨S_, .f32⟩
  | .hbm, ⟨62, _⟩ => ⟨S16x8192x1, .f32⟩
  | .hbm, ⟨63, _⟩ => ⟨S16x8192x1, .f32⟩
  | .hbm, ⟨64, _⟩ => ⟨S_, .f32⟩
  | .hbm, ⟨65, _⟩ => ⟨S16x8192x1, .f32⟩
  | .hbm, ⟨66, _⟩ => ⟨S16x8192x1, .f32⟩
  | .hbm, ⟨67, _⟩ => ⟨S16x8192x512, .f32⟩
  | .hbm, ⟨68, _⟩ => ⟨S16x8192x512, .f32⟩
  | .hbm, ⟨69, _⟩ => ⟨S16x8192x512, .f32⟩
  | .hbm, ⟨70, _⟩ => ⟨S1x1x512, .f32⟩
  | .hbm, ⟨71, _⟩ => ⟨S16x8192x512, .f32⟩
  | .hbm, ⟨72, _⟩ => ⟨S16x8192x512, .f32⟩
  | .hbm, ⟨73, _⟩ => ⟨S1x1x512, .f32⟩
  | .hbm, ⟨74, _⟩ => ⟨S16x8192x512, .f32⟩
  | .hbm, ⟨75, _⟩ => ⟨S16x8192x512, .f32⟩
  | .hbm, ⟨76, _⟩ => ⟨S16x8192x512, .f32⟩
  | _, _ => ⟨S16x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_c : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_while0c_c_13 : Ref sig .tc := ⟨.hbm, 13, rfl⟩
abbrev main_while0c_v37 : Ref sig .tc := ⟨.hbm, 14, rfl⟩
abbrev main_while0b_call0_c : Ref sig .tc := ⟨.hbm, 15, rfl⟩
abbrev main_while0b_call0_c_0 : Ref sig .tc := ⟨.hbm, 16, rfl⟩
abbrev main_while0b_call0_v0 : Ref sig .tc := ⟨.hbm, 17, rfl⟩
abbrev main_while0b_v37 : Ref sig .tc := ⟨.hbm, 18, rfl⟩
abbrev main_while0b_cst_13 : Ref sig .tc := ⟨.hbm, 19, rfl⟩
abbrev main_while0b_cst_14 : Ref sig .tc := ⟨.hbm, 20, rfl⟩
abbrev main_while0b_v38 : Ref sig .tc := ⟨.hbm, 21, rfl⟩
abbrev main_while0b_v39 : Ref sig .tc := ⟨.hbm, 22, rfl⟩
abbrev main_while0b_v40 : Ref sig .tc := ⟨.hbm, 23, rfl⟩
abbrev main_while0b_cst_15 : Ref sig .tc := ⟨.hbm, 24, rfl⟩
abbrev main_while0b_v41 : Ref sig .tc := ⟨.hbm, 25, rfl⟩
abbrev main_while0b_v42 : Ref sig .tc := ⟨.hbm, 26, rfl⟩
abbrev main_while0b_v43 : Ref sig .tc := ⟨.hbm, 27, rfl⟩
abbrev main_while0b_v44 : Ref sig .tc := ⟨.hbm, 28, rfl⟩
abbrev main_while0b_call1_v0 : Ref sig .tc := ⟨.hbm, 29, rfl⟩
abbrev main_while0b_call1_c : Ref sig .tc := ⟨.hbm, 30, rfl⟩
abbrev main_while0b_call1_c_0 : Ref sig .tc := ⟨.hbm, 31, rfl⟩
abbrev main_while0b_v45 : Ref sig .tc := ⟨.hbm, 32, rfl⟩
abbrev main_while0b_c_16 : Ref sig .tc := ⟨.hbm, 33, rfl⟩
abbrev main_while0b_v46 : Ref sig .tc := ⟨.hbm, 34, rfl⟩
abbrev main_v4 : Ref sig .tc := ⟨.hbm, 35, rfl⟩
abbrev main_v5 : Ref sig .tc := ⟨.hbm, 36, rfl⟩
abbrev main_cst_1 : Ref sig .tc := ⟨.hbm, 37, rfl⟩
abbrev main_v6 : Ref sig .tc := ⟨.hbm, 38, rfl⟩
abbrev main_v7 : Ref sig .tc := ⟨.hbm, 39, rfl⟩
abbrev main_cst_2 : Ref sig .tc := ⟨.hbm, 40, rfl⟩
abbrev main_cst_3 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst_4 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_5 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_6 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_7 : Ref sig .tc := ⟨.hbm, 58, rfl⟩
abbrev main_v21 : Ref sig .tc := ⟨.hbm, 59, rfl⟩
abbrev main_v22 : Ref sig .tc := ⟨.hbm, 60, rfl⟩
abbrev main_cst_8 : Ref sig .tc := ⟨.hbm, 61, rfl⟩
abbrev main_v23 : Ref sig .tc := ⟨.hbm, 62, rfl⟩
abbrev main_v24 : Ref sig .tc := ⟨.hbm, 63, rfl⟩
abbrev main_cst_9 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩

abbrev nD : Nat := 1
abbrev τ : Topo := Topo.v7x

variable {F : FTy → Type} [FloatOps F]

abbrev main_while0_count : Scf.Loop 32 := ⟨0#32, 8192#32, 1#32⟩
-- ==== Proof.SubBlock.lean ====
/-
  The work of the kernel on one sub-block of 512 rows, written once for all eight sub-blocks: the moving average, the
  average handed to the next sub-block, and the rows of the result. The values that the printed body stores for the
  sub-blocks are these terms, by definition.
-/
module

public import proofs.«01_k».proof.Proof.Gen.KernelIdeal.Skeleton

@[expose] public section

noncomputable section

namespace Cert.Ema

open Idealize.ShloMosaic Cert.KernelIdeal Cert.KernelIdeal.Gen

/-- A sub-block's rows as a matrix. -/
def rows (x : Vec Ideal S1x512x512 .f32) : FVec Ideal S512x512 .f32 :=
  shapeCast S512x512 x shapeCasts_S1x512x512_S512x512

/-- The moving average of a sub-block: the table `A` against the squares, and the powers `P` against the average before. -/
def avg (A P : FVec Ideal S512x512 .f32) (cy : Vec Ideal S1x512 .f32) (x : Vec Ideal S1x512x512 .f32) :
    FVec Ideal S512x512 .f32 :=
  addf (matmul dot_S512x512_S512x512_S512x512_1_0_0_1_n_n none A (mulf (rows x) (rows x))
      (constant S512x512 .f32 0x00000000#32))
    (mulf P (broadcastTo S512x512 cy broadcasts_S1x512_S512x512))

/-- The average handed on: the last row. -/
def carry (A P : FVec Ideal S512x512 .f32) (cy : Vec Ideal S1x512 .f32) (x : Vec Ideal S1x512x512 .f32) :
    FVec Ideal S1x512 .f32 :=
  extractStridedSlice S1x512 ![511, 0] (avg A P cy x) slices_S512x512_o511_0_S1x512

/-- The decay accumulated before sub-block `q` (a word) of grid column `g`. -/
def scale (g q : BitVec 32) : Ideal .f32 :=
  Scalar.exp (Scalar.mulf (Scalar.addf (Scalar.mulf (Scalar.sitofp .f32 g) (Scalar.ofBits .f32 0x41000000#32))
    (Scalar.ofBits .f32 q)) (Named.named κ "chunk_rate" 0xC0A4AA2A#32))

/-- The bias-corrected average, with the small number added. -/
def corr (g q : BitVec 32) (A P : FVec Ideal S512x512 .f32) (cy : Vec Ideal S1x512 .f32)
    (x : Vec Ideal S1x512x512 .f32) : FVec Ideal S512x512 .f32 :=
  addf (divf (avg A P cy x)
      (subf (broadcast S512x512 (Scalar.addf (Scalar.ofBits .f32 0x3F800000#32) (Scalar.ofBits .f32 0x358637BD#32)))
        (mulf (broadcast S512x512 (scale g q)) P)))
    (broadcast S512x512 (Scalar.ofBits .f32 0x358637BD#32))

/-- Its root, as the kernel forms it. -/
def rootv (v : FVec Ideal S512x512 .f32) : FVec Ideal S512x512 .f32 := mulf v (rsqrt v)

/-- The rows of the result from the roots `r`. -/
def finish (r : FVec Ideal S512x512 .f32) (ga be : Vec Ideal S1x512 .f32) (x : Vec Ideal S1x512x512 .f32) :
    FVec Ideal S1x512x512 .f32 :=
  shapeCast S1x512x512 (addf (addf (mulf (broadcastTo S512x512 ga broadcasts_S1x512_S512x512)
      (mulf (rows x) (divf r (broadcastTo S512x512 (addf (divf
        (shapeCast S512x1 (multiReduction .add [1] S512 r 0x00000000#32 reduces_S512x512_S512 (.inl rfl) rfl) shapeCasts_S512_S512x1)
        (broadcast S512x1 (Scalar.ofBits .f32 0x44000000#32))) (broadcast S512x1 (Scalar.ofBits .f32 0x358637BD#32)))
        broadcasts_S512x1_S512x512))))
      (broadcastTo S512x512 be broadcasts_S1x512_S512x512)) (rows x)) shapeCasts_S512x512_S1x512x512

/-- The rows of the result of a sub-block. -/
def out (g q : BitVec 32) (A P : FVec Ideal S512x512 .f32) (ga be cy : Vec Ideal S1x512 .f32)
    (x : Vec Ideal S1x512x512 .f32) : FVec Ideal S1x512x512 .f32 :=
  finish (rootv (corr g q A P cy x)) ga be x

variable (i : grid0.Coords) (g : BitVec 32) (A P : FVec Ideal S512x512 .f32) (a p : Vec Ideal S512x512 .f32)
variable (ga be cy : Vec Ideal S1x512 .f32) (x : Vec Ideal S1x512x512 .f32)

/-! The averages handed on by the eight sub-blocks are `carry`. -/

theorem carry0 : k0_pay7 (F := Ideal) a p cy x = carry (k0_pay3 a) (k0_pay4 p) cy x := rfl
theorem carry1 : k0_pay13 (F := Ideal) A P cy x = carry A P cy x := rfl
theorem carry2 : k0_pay20 (F := Ideal) A P cy x = carry A P cy x := rfl
theorem carry3 : k0_pay27 (F := Ideal) A P cy x = carry A P cy x := rfl
theorem carry4 : k0_pay32 (F := Ideal) A P cy x = carry A P cy x := rfl
theorem carry5 : k0_pay37 (F := Ideal) A P cy x = carry A P cy x := rfl
theorem carry6 : k0_pay42 (F := Ideal) A P cy x = carry A P cy x := rfl
theorem carry7 : k0_pay47 (F := Ideal) A P cy x = carry A P cy x := rfl

/-! The rows stored by the eight sub-blocks are `out`. -/

theorem out0 : k0_pay10 (F := Ideal) ga be (k0_pay5 x) (k0_pay8 i a p cy x) (k0_pay9 i a p cy x)
    = out (BitVec.ofNat 32 (i 1).val) 0x00000000#32 (k0_pay3 a) (k0_pay4 p) ga be cy x := rfl
theorem out1 : k0_pay17 (F := Ideal) ga be (k0_pay11 x) (k0_pay14 g A P cy x) (k0_pay15 g A P cy x) k0_pay16
    = out g 0x3F800000#32 A P ga be cy x := rfl
theorem out2 : k0_pay24 (F := Ideal) ga be (k0_pay18 x) (k0_pay21 g A P cy x) (k0_pay22 g A P cy x) k0_pay23
    = out g 0x40000000#32 A P ga be cy x := rfl
theorem out3 : k0_pay29 (F := Ideal) ga be (k0_pay25 x) (k0_pay28 g A P cy x)
    = out g 0x40400000#32 A P ga be cy x := rfl
theorem out4 : k0_pay34 (F := Ideal) be (k0_pay30 x) (k0_pay33 g A P ga cy x)
    = out g 0x40800000#32 A P ga be cy x := rfl
theorem out5 : k0_pay39 (F := Ideal) (k0_pay38 g A P ga be cy x) = out g 0x40A00000#32 A P ga be cy x := rfl
theorem out6 : k0_pay44 (F := Ideal) (k0_pay43 g A P ga be cy x) = out g 0x40C00000#32 A P ga be cy x := rfl
theorem out7 : k0_pay48 (F := Ideal) g A P ga be cy x = out g 0x40E00000#32 A P ga be cy x := rfl

end Cert.Ema
-- ==== Proof.Words.lean ====
/-
  The real numbers that the float words of the two programs denote, and the few facts about them that the proof uses:
  they are positive.
-/
module

public import Idealize.ShloMosaic.PureOps.Ideal.Laws
public import Idealize.ShloMosaic.Lib.IdealHost

@[expose] public section

noncomputable section

namespace Cert.Ema

open Idealize.ShloMosaic

/-- The decay of the moving average, `99/100`. -/
def decay : ℝ := 99 / 100

/-- The weight of a new square: the single-precision number written `1 - 0.99`. -/
def weight : ℝ := 5368709 / 2 ^ 29

/-- The small number added under the root and to the divisors: the single-precision number written `1e-6`. -/
def eps : ℝ := 8796093 / 2 ^ 43

/-- The average before the first row: the single-precision number written `1e-4`. -/
def start : ℝ := 13743895 / 2 ^ 37

theorem decay_pos : 0 < decay := by unfold decay; norm_num
theorem decay_lt_one : decay < 1 := by unfold decay; norm_num
theorem weight_pos : 0 < weight := by unfold weight; norm_num
theorem eps_pos : 0 < eps := by unfold eps; norm_num
theorem start_pos : 0 < start := by unfold start; norm_num

/-- The word of the weight. -/
theorem ofBits_weight : Ideal.ofBits .f32 0x3C23D70A#32 = (weight : EReal) := by
  simp [Ideal.ofBits, Ideal.ieee, weight, -EReal.coe_mul]; norm_num

/-- The word of the small number. -/
theorem ofBits_eps : Ideal.ofBits .f32 0x358637BD#32 = (eps : EReal) := by
  simp [Ideal.ofBits, Ideal.ieee, eps, -EReal.coe_mul]; norm_num

/-- The word of the average before the first row. -/
theorem ofBits_start : Ideal.ofBits .f32 0x38D1B717#32 = (start : EReal) := by
  simp [Ideal.ofBits, Ideal.ieee, start, -EReal.coe_mul]; norm_num

/-- The word of one. -/
theorem ofBits_one : Ideal.ofBits .f32 0x3F800000#32 = ((1 : ℝ) : EReal) := by
  simp [Ideal.ofBits, Ideal.ieee, -EReal.coe_mul]; norm_num

/-- The word of the lane count. -/
theorem ofBits_lanes : Ideal.ofBits .f32 0x44000000#32 = ((512 : ℝ) : EReal) := by
  simp [Ideal.ofBits, Ideal.ieee, -EReal.coe_mul]; norm_num

/-- The word of the number of sub-blocks of a grid point. -/
theorem ofBits_eight : Ideal.ofBits .f32 0x41000000#32 = ((8 : ℝ) : EReal) := by
  simp [Ideal.ofBits, Ideal.ieee, -EReal.coe_mul]; norm_num

/-- The words of the sub-block numbers `0` to `7`. -/
theorem ofBits_sub0 : Ideal.ofBits .f32 0x00000000#32 = (((0 : ℕ) : ℝ) : EReal) := by
  simp [Ideal.ofBits, Ideal.ieee, -EReal.coe_mul]
theorem ofBits_sub1 : Ideal.ofBits .f32 0x3F800000#32 = (((1 : ℕ) : ℝ) : EReal) := by
  simp [Ideal.ofBits, Ideal.ieee, -EReal.coe_mul]; norm_num
theorem ofBits_sub2 : Ideal.ofBits .f32 0x40000000#32 = (((2 : ℕ) : ℝ) : EReal) := by
  simp [Ideal.ofBits, Ideal.ieee, -EReal.coe_mul]; norm_num
theorem ofBits_sub3 : Ideal.ofBits .f32 0x40400000#32 = (((3 : ℕ) : ℝ) : EReal) := by
  simp [Ideal.ofBits, Ideal.ieee, -EReal.coe_mul]; norm_num
theorem ofBits_sub4 : Ideal.ofBits .f32 0x40800000#32 = (((4 : ℕ) : ℝ) : EReal) := by
  simp [Ideal.ofBits, Ideal.ieee, -EReal.coe_mul]; norm_num
theorem ofBits_sub5 : Ideal.ofBits .f32 0x40A00000#32 = (((5 : ℕ) : ℝ) : EReal) := by
  simp [Ideal.ofBits, Ideal.ieee, -EReal.coe_mul]; norm_num
theorem ofBits_sub6 : Ideal.ofBits .f32 0x40C00000#32 = (((6 : ℕ) : ℝ) : EReal) := by
  simp [Ideal.ofBits, Ideal.ieee, -EReal.coe_mul]; norm_num
theorem ofBits_sub7 : Ideal.ofBits .f32 0x40E00000#32 = (((7 : ℕ) : ℝ) : EReal) := by
  simp [Ideal.ofBits, Ideal.ieee, -EReal.coe_mul]; norm_num

/-- The quotient of the words of 99 and 100 is the decay. -/
theorem div_decay : Ideal.div (Ideal.ofBits .f32 0x42C60000#32) (Ideal.ofBits .f32 0x42C80000#32) = (decay : EReal) := by
  have h99 : Ideal.ofBits .f32 0x42C60000#32 = ((99 : ℝ) : EReal) := by
    simp [Ideal.ofBits, Ideal.ieee, -EReal.coe_mul]; norm_num
  have h100 : Ideal.ofBits .f32 0x42C80000#32 = ((100 : ℝ) : EReal) := by
    simp [Ideal.ofBits, Ideal.ieee, -EReal.coe_mul]; norm_num
  rw [h99, h100, Ideal.div_coe (by norm_num), ← EReal.coe_mul]
  unfold decay; norm_num

end Cert.Ema
-- ==== Proof.EmaMath.lean ====
/-
  The mathematics of the moving average over the real numbers: the recurrence row by row, its closed form over a block
  of rows started from the average before the block, and the normalised row that both programs form from it.
-/
module

public import proofs.«01_k».proof.Proof.Words
public import Mathlib.Analysis.SpecialFunctions.Pow.Real
public import Mathlib.Algebra.BigOperators.Fin

@[expose] public section

noncomputable section

namespace Cert.Ema

open Finset

/-- The moving average of the squares of `u` after the first `n` rows. -/
def ema (u : ℕ → ℝ) : ℕ → ℝ
  | 0 => start
  | n + 1 => decay * ema u n + weight * u n * u n

/-- The average is positive at every row. -/
theorem ema_pos (u : ℕ → ℝ) : ∀ n, 0 < ema u n
  | 0 => start_pos
  | n + 1 => by
    have h := mul_pos decay_pos (ema_pos u n)
    have h' : 0 ≤ weight * u n * u n := by
      rw [mul_assoc]; exact mul_nonneg weight_pos.le (mul_self_nonneg _)
    show 0 < decay * ema u n + weight * u n * u n
    linarith

/-- The average `n` rows after row `p`: each square of those rows weighted by the decay since its row, and the average
    before them decayed `n` times. -/
theorem ema_add (u : ℕ → ℝ) (p : ℕ) : ∀ n, ema u (p + n)
    = (∑ j ∈ range n, weight * decay ^ (n - 1 - j) * (u (p + j) * u (p + j))) + decay ^ n * ema u p
  | 0 => by simp
  | n + 1 => by
    rw [← Nat.add_assoc]
    show decay * ema u (p + n) + weight * u (p + n) * u (p + n) = _
    rw [ema_add u p n, sum_range_succ, mul_add, mul_sum, pow_succ']
    have h : ∀ j ∈ range n, decay * (weight * decay ^ (n - 1 - j) * (u (p + j) * u (p + j)))
        = weight * decay ^ (n + 1 - 1 - j) * (u (p + j) * u (p + j)) := fun j hj => by
      have : n + 1 - 1 - j = (n - 1 - j) + 1 := by have := mem_range.mp hj; omega
      rw [this, pow_succ']; ring
    rw [sum_congr rfl h]
    simp only [Nat.add_sub_cancel, Nat.sub_self, pow_zero]
    ring

/-- An entry of the lower-triangular table of weights of a block. -/
def tri (i j : ℕ) : ℝ := if j ≤ i then weight * decay ^ (i - j) else 0

/-- Row `i` of a block of 512 rows that starts at row `p`: the row of the table against the block's squares, and the
    average before the block decayed `i + 1` times. -/
theorem ema_block (u : ℕ → ℝ) (p : ℕ) (i : Fin 512) :
    (∑ j : Fin 512, tri i j * (u (p + j) * u (p + j))) + decay ^ ((i : ℕ) + 1) * ema u p = ema u (p + i + 1) := by
  rw [Nat.add_assoc, ema_add u p (i + 1)]
  congr 1
  rw [Fin.sum_univ_eq_sum_range (fun j => tri i j * (u (p + j) * u (p + j))) 512]
  have hi : (i : ℕ) + 1 ≤ 512 := i.isLt
  rw [← sum_subset (range_subset_range.mpr hi) (fun j _ hj => by
    have : ¬ j ≤ (i : ℕ) := by simp only [mem_range] at hj; omega
    simp [tri, this])]
  refine sum_congr rfl fun j hj => ?_
  have : j ≤ (i : ℕ) := by have := mem_range.mp hj; omega
  simp [tri, this]

/-- The bias-corrected average of row `n`, with the small number added to its divisor and to it. -/
def corrected (u : ℕ → ℝ) (n : ℕ) : ℝ := ema u (n + 1) / (1 + eps - decay ^ (n + 1)) + eps

/-- The divisor of the bias correction is positive. -/
theorem denom_pos (n : ℕ) : 0 < 1 + eps - decay ^ n := by
  have := pow_le_one₀ (n := n) decay_pos.le decay_lt_one.le
  have := eps_pos
  linarith

/-- The corrected average is positive. -/
theorem corrected_pos (u : ℕ → ℝ) (n : ℕ) : 0 < corrected u n :=
  add_pos (div_pos (ema_pos u _) (denom_pos _)) eps_pos

/-- The root of the corrected average of lane `l`, row `n`. -/
def root (X : Fin 512 → ℕ → ℝ) (n : ℕ) (l : Fin 512) : ℝ := Real.sqrt (corrected (X l) n)

/-- The divisor of a row: the mean of its roots, with the small number added. -/
def rowDiv (X : Fin 512 → ℕ → ℝ) (n : ℕ) : ℝ := (∑ l, root X n l) / 512 + eps

theorem rowDiv_pos (X : Fin 512 → ℕ → ℝ) (n : ℕ) : 0 < rowDiv X n :=
  add_pos_of_nonneg_of_pos (div_nonneg (sum_nonneg fun _ _ => Real.sqrt_nonneg _) (by norm_num)) eps_pos

/-- The normalised root of lane `l`, row `n`. -/
def scaled (X : Fin 512 → ℕ → ℝ) (n : ℕ) (l : Fin 512) : ℝ := root X n l / rowDiv X n

end Cert.Ema
-- ==== Proof.SubValue.lean ====
/-
  What one sub-block computes, at each element, when the rows before it have been averaged correctly: the average it
  hands on is the average of the rows so far, and the rows of its result are the normalised rows.
-/
module

public import proofs.«01_k».proof.Proof.SubBlock
public import proofs.«01_k».proof.Proof.EmaMath
public import Idealize.ShloMosaic.Lib.Pointwise

@[expose] public section

set_option maxRecDepth 16384

noncomputable section

namespace Cert.Ema

open Idealize.ShloMosaic Cert.KernelIdeal Cert.KernelIdeal.Gen

/-- `cy` holds the average after `n` rows, lane by lane. -/
def IsAvg (X : Fin 512 → ℕ → ℝ) (n : ℕ) (cy : Vec Ideal S1x512 .f32) : Prop :=
  ∀ l : Fin 512, cy (ix2 0 l) = (ema (X l) n : EReal)

/-- `x` holds the 512 rows from row `n`. -/
def IsRows (X : Fin 512 → ℕ → ℝ) (n : ℕ) (x : Vec Ideal S1x512x512 .f32) : Prop :=
  ∀ r l : Fin 512, x (ix3 0 r l) = (X l (n + r) : EReal)

/-- `A` is the lower-triangular table of weights. -/
def IsTri (A : FVec Ideal S512x512 .f32) : Prop := ∀ r j : Fin 512, A (ix2 r j) = (tri r j : EReal)

/-- `P` is the table of powers of the decay, the same in every lane. -/
def IsPow (P : FVec Ideal S512x512 .f32) : Prop := ∀ r l : Fin 512, P (ix2 r l) = (decay ^ ((r : ℕ) + 1) : ℝ)

/-- The result at row `n`, lane `l`: the row normalised, scaled by `ga`, shifted by `be`, and added to the row. -/
def target (X : Fin 512 → ℕ → ℝ) (ga be : EReal) (n : ℕ) (l : Fin 512) : EReal :=
  ga * ((X l n : EReal) * (scaled X n l : EReal)) + be + (X l n : EReal)

/-- A sum of real numbers, taken among the extended reals. -/
theorem coe_sum {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

/-- The quotient of two real numbers, the second not zero. -/
theorem coe_div (a b : ℝ) (h : b ≠ 0) : Ideal.div (a : EReal) (b : EReal) = ((a / b : ℝ) : EReal) := by
  rw [Ideal.div_coe h, ← EReal.coe_mul, mul_one_div]

/-- The reciprocal square root of a positive number, times the number, is its root. -/
theorem mul_rsqrt (v : ℝ) (h : 0 < v) : (v : EReal) * Ideal.rsqrt (v : EReal) = (Real.sqrt v : EReal) := by
  rw [Ideal.rsqrt_coe, if_neg (not_lt.mpr h.le), if_neg h.ne', ← EReal.coe_mul, ← div_eq_mul_inv, Real.div_sqrt]

/-- The scalar unit's exponential is the exponential. -/
theorem scalar_exp (y : Ideal .f32) : Scalar.exp y = Ideal.exp y := rfl

/-- The decay accumulated before sub-block `k` of grid column `g`: 512 rows for each sub-block before it. -/
theorem scale_value (g k : ℕ) (hg : g < 2) (q : BitVec 32) (hq : Ideal.ofBits .f32 q = ((k : ℝ) : EReal)) :
    scale (BitVec.ofNat 32 g) q = ((decay ^ (512 * (8 * g + k)) : ℝ) : EReal) := by
  have hk : (Named.named κ "chunk_rate" 0xC0A4AA2A#32 : Ideal .f32) = ((512 * Real.log (99 / 100) : ℝ) : EReal) := rfl
  have hi : (BitVec.ofNat 32 g).toInt = (g : ℤ) := by interval_cases g <;> rfl
  pointwise [scale]
  rw [hk, hq, ofBits_eight, hi]
  have : ((((g : ℤ) : ℝ) : EReal) * ((8 : ℝ) : EReal) + ((k : ℝ) : EReal)) * ((512 * Real.log (99 / 100) : ℝ) : EReal)
      = ((Real.log decay * ((512 * (8 * g + k) : ℕ) : ℝ) : ℝ) : EReal) := by
    rw [← EReal.coe_mul, ← EReal.coe_add, ← EReal.coe_mul]
    congr 1
    unfold decay; push_cast; ring
  rw [this]
  rw [scalar_exp, Ideal.exp_coe, mul_comm, Real.exp_nat_mul, Real.exp_log decay_pos]

variable {X : Fin 512 → ℕ → ℝ} {n : ℕ} {A P : FVec Ideal S512x512 .f32} {ga be cy : Vec Ideal S1x512 .f32}
variable {x : Vec Ideal S1x512x512 .f32}

theorem rows_apply (x : Vec Ideal S1x512x512 .f32) (r l : Fin 512) : rows x (ix2 r l) = x (ix3 0 r l) := by
  pointwise [rows]

/-- The average at row `r` of the sub-block is the average of all rows up to it. -/
theorem avg_value (hA : IsTri A) (hP : IsPow P) (hc : IsAvg X n cy) (hx : IsRows X n x) (r l : Fin 512) :
    avg A P cy x (ix2 r l) = (ema (X l) (n + r + 1) : EReal) := by
  pointwise [avg]
  simp only [rows_apply, hA r, hP r l, hc l, hx _ l]
  simp only [← EReal.coe_mul]
  rw [coe_sum, ← EReal.coe_add, ema_block (X l) n r]

/-- The average handed on is the average after the sub-block's 512 rows. -/
theorem carry_value (hA : IsTri A) (hP : IsPow P) (hc : IsAvg X n cy) (hx : IsRows X n x) :
    IsAvg X (n + 512) (carry A P cy x) := fun l => by
  have h : carry A P cy x (ix2 0 l) = avg A P cy x (ix2 511 l) := by pointwise [carry]
  rw [h, avg_value hA hP hc hx]
  rfl

/-- The corrected average. -/
theorem corr_value {g q : BitVec 32} (hs : scale g q = ((decay ^ n : ℝ) : EReal)) (hA : IsTri A) (hP : IsPow P)
    (hc : IsAvg X n cy) (hx : IsRows X n x) (r l : Fin 512) :
    corr g q A P cy x (ix2 r l) = (corrected (X l) (n + r) : EReal) := by
  pointwise [corr]
  rw [hs, avg_value hA hP hc hx r l, hP r l, ofBits_eps, ← EReal.coe_one, ← EReal.coe_add, ← EReal.coe_mul,
    ← EReal.coe_sub, ← pow_add, coe_div _ _ (denom_pos _).ne', ← EReal.coe_add]
  rfl

/-- Its root. -/
theorem root_value {v : FVec Ideal S512x512 .f32} (hv : ∀ r l : Fin 512, v (ix2 r l) = (corrected (X l) (n + r) : EReal))
    (r l : Fin 512) : rootv v (ix2 r l) = (root X (n + r) l : EReal) := by
  pointwise [rootv]
  rw [hv r l, mul_rsqrt _ (corrected_pos _ _)]
  rfl

/-- The rows of the result, from the roots. -/
theorem finish_value {v : FVec Ideal S512x512 .f32} (hv : ∀ r l : Fin 512, v (ix2 r l) = (root X (n + r) l : EReal))
    (hx : IsRows X n x) (r l : Fin 512) :
    finish v ga be x (ix3 0 r l) = target X (ga (ix2 0 l)) (be (ix2 0 l)) (n + r) l := by
  pointwise [finish]
  simp only [rows_apply, hx r l, hv r]
  rw [coe_sum, ofBits_lanes, coe_div _ _ (by norm_num), ofBits_eps, ← EReal.coe_add, coe_div _ ((∑ k, root X (n + r) k) / 512 + eps) (rowDiv_pos X _).ne']
  rfl

/-- The rows of the result of a sub-block. -/
theorem out_value {g q : BitVec 32} (hs : scale g q = ((decay ^ n : ℝ) : EReal)) (hA : IsTri A) (hP : IsPow P)
    (hc : IsAvg X n cy) (hx : IsRows X n x) (r l : Fin 512) :
    out g q A P ga be cy x (ix3 0 r l) = target X (ga (ix2 0 l)) (be (ix2 0 l)) (n + r) l :=
  finish_value (root_value (corr_value hs hA hP hc hx)) hx r l

end Cert.Ema
-- ==== Proof.Pieces.lean ====
/-
  One grid point: the eight sub-blocks in order, each handing its average to the next. The rows that the point stores
  are eight pieces; each holds the normalised rows of its place in the block.
-/
module

public import proofs.«01_k».proof.Proof.SubValue
public import Idealize.ShloMosaic.Lib.Pipeline.Value

@[expose] public section

noncomputable section

namespace Cert.Ema

open Idealize.ShloMosaic Idealize.ShloMosaic.TcCoe Cert.KernelIdeal Cert.KernelIdeal.Gen

/-- Sub-block `k` lies inside the block. -/
theorem sub_inb (k : ℕ) (hk : k < 8) : ∀ a, (![0, 512 * k, 0] : Fin 3 → ℕ) a + S1x512x512.size a ≤ S1x4096x512.size a
  | ⟨0, _⟩ => by show 0 + 1 ≤ 1; omega
  | ⟨1, _⟩ => by show 512 * k + 512 ≤ 4096; omega
  | ⟨2, _⟩ => by show 0 + 512 ≤ 512; omega

/-- The rows of sub-block `k`. -/
def sub (x0 : Vec Ideal S1x4096x512 .f32) (k : ℕ) (hk : k < 8) : Vec Ideal S1x512x512 .f32 :=
  View.ld x0 (Rect.unit ![0, 512 * k, 0] S1x512x512.size (sub_inb k hk))

/-- The average before sub-block `k`. -/
def before (A P : FVec Ideal S512x512 .f32) (cy : Vec Ideal S1x512 .f32) (x0 : Vec Ideal S1x4096x512 .f32) :
    (k : ℕ) → k ≤ 8 → Vec Ideal S1x512 .f32
  | 0, _ => cy
  | k + 1, h => carry A P (before A P cy x0 k (Nat.le_of_succ_le h)) (sub x0 k h)

/-- The number of a sub-block, as the word the body carries. -/
def subWord : Fin 8 → BitVec 32 :=
  ![0x00000000#32, 0x3F800000#32, 0x40000000#32, 0x40400000#32, 0x40800000#32, 0x40A00000#32, 0x40C00000#32, 0x40E00000#32]

/-- It denotes that number. -/
theorem subWord_value : ∀ k : Fin 8, Ideal.ofBits .f32 (subWord k) = (((k : ℕ) : ℝ) : EReal)
  | 0 => ofBits_sub0
  | 1 => ofBits_sub1
  | 2 => ofBits_sub2
  | 3 => ofBits_sub3
  | 4 => ofBits_sub4
  | 5 => ofBits_sub5
  | 6 => ofBits_sub6
  | 7 => ofBits_sub7

variable (g : BitVec 32) (A P : FVec Ideal S512x512 .f32) (ga be cy : Vec Ideal S1x512 .f32)
variable (x0 : Vec Ideal S1x4096x512 .f32)

/-- What is stored of sub-block `k`, and where. -/
def piece (k : ℕ) (hk : k < 8) : View.Piece (Elt Ideal) S1x4096x512 .f32 :=
  ⟨Rect.unit ![0, 512 * k, 0] S1x512x512.size (sub_inb k hk),
    out g (subWord ⟨k, hk⟩) A P ga be (before A P cy x0 k hk.le) (sub x0 k hk)⟩

/-- The eight pieces, the last first. -/
def pieces : List (View.Piece (Elt Ideal) S1x4096x512 .f32) :=
  [piece g A P ga be cy x0 7 (by omega), piece g A P ga be cy x0 6 (by omega), piece g A P ga be cy x0 5 (by omega),
    piece g A P ga be cy x0 4 (by omega), piece g A P ga be cy x0 3 (by omega), piece g A P ga be cy x0 2 (by omega),
    piece g A P ga be cy x0 1 (by omega), piece g A P ga be cy x0 0 (by omega)]

theorem mem_pieces {p : View.Piece (Elt Ideal) S1x4096x512 .f32} (hp : p ∈ pieces g A P ga be cy x0) :
    ∃ k hk, p = piece g A P ga be cy x0 k hk := by
  simp only [pieces, List.mem_cons, List.not_mem_nil, or_false] at hp
  rcases hp with h | h | h | h | h | h | h | h <;> exact ⟨_, _, h⟩

/-- The element of the block at which element `(0, r, l)` of sub-block `k` lies. -/
theorem emb_place (k : ℕ) (hk : k < 8) (r l : Fin 512) :
    (Rect.unit (s := S1x4096x512) ![0, 512 * k, 0] S1x512x512.size (sub_inb k hk)).emb (ix3 (n0 := 1) 0 r l)
      = ix3 (n0 := 1) 0 (⟨512 * k + r, by omega⟩ : Fin 4096) l := by
  funext a
  apply Fin.ext
  rw [Rect.emb_apply]
  match a with
  | ⟨0, _⟩ => show 0 + 1 * 0 = 0; rfl
  | ⟨1, _⟩ => show 512 * k + 1 * (r : ℕ) = 512 * k + r; omega
  | ⟨2, _⟩ => show 0 + 1 * (l : ℕ) = l; omega

variable {X : Fin 512 → ℕ → ℝ} {n : ℕ} {A P ga be cy x0}

/-- `x0` holds the 4096 rows from row `n`. -/
def IsBlock (X : Fin 512 → ℕ → ℝ) (n : ℕ) (x0 : Vec Ideal S1x4096x512 .f32) : Prop :=
  ∀ (r : Fin 4096) (l : Fin 512), x0 (ix3 0 r l) = (X l (n + r) : EReal)

/-- Sub-block `k` holds the 512 rows from row `512 k` of the block. -/
theorem sub_rows (hx : IsBlock X n x0) (k : ℕ) (hk : k < 8) : IsRows X (n + 512 * k) (sub x0 k hk) := fun r l => by
  show x0 _ = _
  rw [show (Rect.unit (s := S1x4096x512) ![0, 512 * k, 0] S1x512x512.size (sub_inb k hk)).toLoadRect.idx (ix3 (n0 := 1) 0 r l)
    = ix3 (n0 := 1) 0 (⟨512 * k + r, by omega⟩ : Fin 4096) l from emb_place k hk r l, hx]
  show ((X l (n + (512 * k + r)) : ℝ) : EReal) = _
  rw [Nat.add_assoc]

/-- The average before sub-block `k` is the average of all rows before it. -/
theorem before_value (hA : IsTri A) (hP : IsPow P) (hc : IsAvg X n cy) (hx : IsBlock X n x0) :
    ∀ (k : ℕ) (hk : k ≤ 8), IsAvg X (n + 512 * k) (before A P cy x0 k hk)
  | 0, _ => hc
  | k + 1, h => carry_value hA hP (before_value hA hP hc hx k _) (sub_rows hx k h)

/-- The normalised rows from row `n`, as the contents of a block. -/
def blockOut (X : Fin 512 → ℕ → ℝ) (ga be : Vec Ideal S1x512 .f32) (n : ℕ) : Vec Ideal S1x4096x512 .f32 := fun z =>
  target X (ga (ix2 (n1 := 512) 0 (z 2))) (be (ix2 (n1 := 512) 0 (z 2))) (n + (z 1).val) (z 2)

/-- An element of a sub-block is its row and its lane. -/
theorem row_lane (y : S1x512x512.Idx) : ∃ r l : Fin 512, y = ix3 0 r l :=
  ⟨y 1, y 2, (eq_ix3 (n0 := 1) (n1 := 512) (n2 := 512) y).trans
    (congrArg (fun a : Fin 1 => ix3 (n0 := 1) (n1 := 512) (n2 := 512) a (y 1) (y 2)) (Subsingleton.elim _ _))⟩

/-- Element `(0, r, l)` of the piece of sub-block `k` of grid column `c`. -/
theorem piece_apply {c : ℕ} (hcol : c < 2) (hn : n = 4096 * c) (hA : IsTri A) (hP : IsPow P) (hc : IsAvg X n cy)
    (hx : IsBlock X n x0) (k : ℕ) (hk : k < 8) (r l : Fin 512) :
    out (BitVec.ofNat 32 c) (subWord ⟨k, hk⟩) A P ga be (before A P cy x0 k hk.le) (sub x0 k hk) (ix3 0 r l)
      = blockOut X ga be n ((Rect.unit (s := S1x4096x512) ![0, 512 * k, 0] S1x512x512.size (sub_inb k hk)).emb
        (ix3 (n0 := 1) 0 r l)) := by
  have hs : scale (BitVec.ofNat 32 c) (subWord ⟨k, hk⟩) = ((decay ^ (n + 512 * k) : ℝ) : EReal) := by
    rw [scale_value c k hcol _ (subWord_value ⟨k, hk⟩), hn]
    congr 2; ring
  rw [out_value hs hA hP (before_value hA hP hc hx k hk.le) (sub_rows hx k hk) r l, emb_place k hk r l]
  show target X _ _ (n + 512 * k + r) l = target X _ _ (n + (512 * k + r)) l
  rw [Nat.add_assoc]
  rfl

/-- Each piece of grid column `c` holds the normalised rows of its place. -/
theorem piece_value {c : ℕ} (hcol : c < 2) (hn : n = 4096 * c) (hA : IsTri A) (hP : IsPow P) (hc : IsAvg X n cy)
    (hx : IsBlock X n x0) (p : View.Piece (Elt Ideal) S1x4096x512 .f32)
    (hp : p ∈ pieces (BitVec.ofNat 32 c) A P ga be cy x0) (y : p.1.shape.Idx) :
    p.2 y = blockOut X ga be n (p.1.emb y) := by
  obtain ⟨k, hk, rfl⟩ := mem_pieces _ _ _ _ _ _ _ hp
  obtain ⟨r, l, rfl⟩ := row_lane y
  exact piece_apply hcol hn hA hP hc hx k hk r l

end Cert.Ema
-- ==== Proof.Body.lean ====
/-
  The printed body at one grid point, in its two cases (the first point of a batch row resets the average; the second
  finds the average that the first left): its stores are the eight pieces, and what it leaves for the next point is the
  average after the block's rows.
-/
module

public import proofs.«01_k».proof.Proof.Pieces
public import proofs.«01_k».proof.Proof.Gen.KernelIdeal.Frame
public import Idealize.ShloMosaic.Lib.Tactic

@[expose] public section

noncomputable section

namespace Cert.Ema

open Idealize.ShloMosaic Idealize.ShloMosaic.TcCoe Idealize.SL.Sem Cert.KernelIdeal Cert.KernelIdeal.Gen

theorem zero_off : (![0, 0] : Fin 2 → Nat) = fun _ => 0 := funext fun a => by fin_cases a <;> rfl

/-- A load of a whole table. -/
theorem ld_table (X : Vec Ideal S512x512 .f32) :
    View.ld X (Rect.unit (s := S512x512) ![0, 0] ![512, 512] inb_S512x512_S512x512_0_0) = X :=
  View.ld_unit_zero zero_off _ X

/-- A load of a whole row. -/
theorem ld_row (X : Vec Ideal S1x512 .f32) :
    View.ld X (Rect.unit (s := S1x512) ![0, 0] ![1, 512] inb_S1x512_S1x512_0_0) = X :=
  View.ld_unit_zero zero_off _ X

section
variable (c : Dev nD) (i : grid0.Coords) (arg2 : Memref sig .tc .vmem S1x4096x512 .f32) (harg2 : arg2.IsWhole)
  (arg3 : Memref sig .tc .vmem S512x512 .f32) (harg3 : arg3.IsWhole) (arg4 : Memref sig .tc .vmem S512x512 .f32)
  (harg4 : arg4.IsWhole) (arg5 : Memref sig .tc .vmem S1x512 .f32) (harg5 : arg5.IsWhole)
  (arg6 : Memref sig .tc .vmem S1x512 .f32) (harg6 : arg6.IsWhole) (arg7 : Memref sig .tc .vmem S1x4096x512 .f32)
  (harg7 : arg7.IsWhole) (arg8 : Memref sig .tc .vmem S1x512 .f32) (harg8 : arg8.IsWhole)
  (x0 : Vec Ideal S1x4096x512 .f32) (x1 x2 : Vec Ideal S512x512 .f32) (x3 x4 xs0 : Vec Ideal S1x512 .f32)

/-- A row stored and read back. -/
theorem readCov_row (w : Vec Ideal S1x512 .f32) :
    arg8.view.readCov [(⟨Rect.unit ![0, 0] ![1, 512] inb_S1x512_S1x512_0_0, w⟩ : View.Piece (Elt Ideal) S1x512 .f32)]
      (Rect.unit ![0, 0] ![1, 512] inb_S1x512_S1x512_0_0).toLoadRect = w :=
  View.readCov_unit_zero (S := S1x512) _ zero_off _ _

/-- The stores of a point that resets the average. -/
theorem run_A (hc0 : cond0_0 i) :
    (kernelRun0_A (F := Ideal) c i arg2 harg2 arg3 harg3 arg4 harg4 arg5 harg5 arg6 harg6 arg7 harg7 arg8 harg8 hc0
      x0 x1 x2 x3 x4).1 = pieces (BitVec.ofNat 32 (i 1).val) (k0_pay3 x1) (k0_pay4 x2) x3 x4 (k0_pay2 (F := Ideal)) x0 := by
  unfold kernelRun0_A
  dsimp only
  sl_unfold_words
  simp only [View.readAt_eq_ld, harg2.read_unread, harg3.read_unread, harg4.read_unread, harg5.read_unread,
    harg6.read_unread, ld_table, ld_row, readCov_row, out0, out1, out2, out3, out4, out5, out6, out7, carry0, carry1,
    carry2, carry3, carry4, carry5, carry6, carry7]
  rfl

/-- The stores of a point that goes on from the average `xs0`. -/
theorem run_B (hc0 : ¬ cond0_0 i) :
    (kernelRun0_B (F := Ideal) c i arg2 harg2 arg3 harg3 arg4 harg4 arg5 harg5 arg6 harg6 arg7 harg7 arg8 harg8 hc0
      x0 x1 x2 x3 x4 xs0).1 = pieces (BitVec.ofNat 32 (i 1).val) (k0_pay3 x1) (k0_pay4 x2) x3 x4 xs0 x0 := by
  unfold kernelRun0_B
  dsimp only
  sl_unfold_words
  simp only [View.readAt_eq_ld, harg2.read_unread, harg3.read_unread, harg4.read_unread, harg5.read_unread,
    harg6.read_unread, harg8.read_unread, ld_table, ld_row, out0, out1, out2, out3, out4, out5, out6, out7, carry0,
    carry1, carry2, carry3, carry4, carry5, carry6, carry7]
  rfl

/-- The average left by a point that resets it. -/
theorem sout_A (hc0 : cond0_0 i) :
    sout0_A_0 (F := Ideal) c i arg2 harg2 arg3 harg3 arg4 harg4 arg5 harg5 arg6 harg6 arg7 harg7 arg8 harg8 hc0
      x0 x1 x2 x3 x4 = k0_pay1 (F := Ideal) (before (k0_pay3 x1) (k0_pay4 x2) (k0_pay2 (F := Ideal)) x0 8 le_rfl) := by
  unfold sout0_A_0
  rw [View.read_writes_eq_canon _ _ _ (scover0_A_0 c i arg2 harg2 arg3 harg3 arg4 harg4 arg5 harg5 arg6 harg6 arg7 harg7
    arg8 harg8 hc0 x0 x1 x2 x3 x4)]
  unfold kernelRun0_A
  dsimp only
  sl_unfold_words
  refine (View.canon_cons_unit_zero (S := S1x512) zero_off _ _ _).trans ?_
  simp only [View.readAt_eq_ld, harg2.read_unread, harg3.read_unread, harg4.read_unread, harg5.read_unread,
    harg6.read_unread, ld_table, ld_row, readCov_row, carry0, carry1, carry2, carry3, carry4, carry5, carry6, carry7]
  rfl

/-- The average left by a point that goes on from `xs0`. -/
theorem sout_B (hc0 : ¬ cond0_0 i) :
    sout0_B_0 (F := Ideal) c i arg2 harg2 arg3 harg3 arg4 harg4 arg5 harg5 arg6 harg6 arg7 harg7 arg8 harg8 hc0
      x0 x1 x2 x3 x4 xs0 = k0_pay1 (F := Ideal) (before (k0_pay3 x1) (k0_pay4 x2) xs0 x0 8 le_rfl) := by
  unfold sout0_B_0
  rw [View.read_writes_eq_canon _ _ _ (scover0_B_0 c i arg2 harg2 arg3 harg3 arg4 harg4 arg5 harg5 arg6 harg6 arg7 harg7
    arg8 harg8 hc0 x0 x1 x2 x3 x4 xs0)]
  unfold kernelRun0_B
  dsimp only
  sl_unfold_words
  refine (View.canon_unit_zero (S := S1x512) zero_off _ _).trans ?_
  simp only [View.readAt_eq_ld, harg2.read_unread, harg3.read_unread, harg4.read_unread, harg5.read_unread,
    harg6.read_unread, harg8.read_unread, ld_table, ld_row, carry0, carry1, carry2, carry3, carry4, carry5, carry6, carry7]
  rfl

/-- A table read into the body is the table. -/
theorem pay3_eq : k0_pay3 (F := Ideal) x1 = x1 := shapeCast_self _ _
theorem pay4_eq : k0_pay4 (F := Ideal) x1 = x1 := shapeCast_self _ _
/-- An average stored by the body is the average. -/
theorem pay1_eq : k0_pay1 (F := Ideal) xs0 = xs0 := shapeCast_self _ _

variable {X : Fin 512 → ℕ → ℝ} {x0 x1 x2 x3 x4 xs0}

/-- The reset value is the average before the first row. -/
theorem reset_value : IsAvg X 0 (k0_pay2 (F := Ideal)) := fun l => by
  pointwise [k0_pay2]
  exact ofBits_start

/-- The rows stored by a point that resets the average: the first block of a batch row. -/
theorem out_A (hc0 : cond0_0 i) (hi : (i 1).val = 0) (hA : IsTri x1) (hP : IsPow x2) (hx : IsBlock X 0 x0)
    (r : Fin 4096) (l : Fin 512) :
    out0_A_5 (F := Ideal) c i arg2 harg2 arg3 harg3 arg4 harg4 arg5 harg5 arg6 harg6 arg7 harg7 arg8 harg8 hc0
      x0 x1 x2 x3 x4 (ix3 0 r l) = target X (x3 (ix2 0 l)) (x4 (ix2 0 l)) r l := by
  unfold out0_A_5
  rw [View.read_writes_eq_canon _ _ _ (cover0_A_5 c i arg2 harg2 arg3 harg3 arg4 harg4 arg5 harg5 arg6 harg6 arg7 harg7
    arg8 harg8 hc0 x0 x1 x2 x3 x4)]
  refine (View.canon_apply_of_pieces (blockOut X x3 x4 0) _ (fun p hp y => ?_) _ (cover0_A_5 c i arg2 harg2 arg3 harg3 arg4 harg4 arg5
    harg5 arg6 harg6 arg7 harg7 arg8 harg8 hc0 x0 x1 x2 x3 x4 _)).trans ?_
  · rw [run_A, pay3_eq, pay4_eq, hi] at hp
    exact piece_value (c := 0) (by omega) rfl hA hP reset_value hx p hp y
  · show target X _ _ (0 + r) l = _
    rw [Nat.zero_add]; rfl

/-- The average it leaves: that after the block's rows. -/
theorem next_A (hc0 : cond0_0 i) (hA : IsTri x1) (hP : IsPow x2) (hx : IsBlock X 0 x0) :
    IsAvg X 4096 (sout0_A_0 (F := Ideal) c i arg2 harg2 arg3 harg3 arg4 harg4 arg5 harg5 arg6 harg6 arg7 harg7 arg8
      harg8 hc0 x0 x1 x2 x3 x4) := by
  rw [sout_A, pay1_eq, pay3_eq, pay4_eq]
  exact before_value hA hP reset_value hx 8 le_rfl

/-- The rows stored by a point that goes on from the average: the second block of a batch row. -/
theorem out_B (hc0 : ¬ cond0_0 i) (hi : (i 1).val = 1) (hA : IsTri x1) (hP : IsPow x2) (hs : IsAvg X 4096 xs0)
    (hx : IsBlock X 4096 x0) (r : Fin 4096) (l : Fin 512) :
    out0_B_5 (F := Ideal) c i arg2 harg2 arg3 harg3 arg4 harg4 arg5 harg5 arg6 harg6 arg7 harg7 arg8 harg8 hc0
      x0 x1 x2 x3 x4 xs0 (ix3 0 r l) = target X (x3 (ix2 0 l)) (x4 (ix2 0 l)) (4096 + r) l := by
  unfold out0_B_5
  rw [View.read_writes_eq_canon _ _ _ (cover0_B_5 c i arg2 harg2 arg3 harg3 arg4 harg4 arg5 harg5 arg6 harg6 arg7 harg7
    arg8 harg8 hc0 x0 x1 x2 x3 x4 xs0)]
  refine (View.canon_apply_of_pieces (blockOut X x3 x4 4096) _ (fun p hp y => ?_) _ (cover0_B_5 c i arg2 harg2 arg3 harg3 arg4 harg4 arg5
    harg5 arg6 harg6 arg7 harg7 arg8 harg8 hc0 x0 x1 x2 x3 x4 xs0 _)).trans ?_
  · rw [run_B, pay3_eq, pay4_eq, hi] at hp
    exact piece_value (c := 1) (by omega) rfl hA hP hs hx p hp y
  · rfl

end

end Cert.Ema
-- ==== Proof.Power.lean ====
/-
  The decay raised to a natural number that a 32-bit word holds, as both programs take it.
-/
module

public import proofs.«01_k».proof.Proof.Words
public import Mathlib.Analysis.SpecialFunctions.Pow.Real

@[expose] public section

noncomputable section

namespace Cert.Ema

open Idealize.ShloMosaic

/-- The decay raised to a natural number that a word holds. -/
theorem pow_word (w : BitVec 32) (n : ℕ) (h : w.toInt = n) :
    Ideal.pow (Ideal.div (Ideal.ofBits .f32 0x42C60000#32) (Ideal.ofBits .f32 0x42C80000#32))
      (FloatOps.sitofp (F := Ideal) .f32 w) = ((decay ^ n : ℝ) : EReal) := by
  show Ideal.pow _ ((w.toInt : ℝ) : EReal) = _
  rw [div_decay, h, Ideal.pow_coe_coe, Int.cast_natCast]
  exact congrArg _ (Real.rpow_natCast _ _)

/-- The word of a small number, read as a signed number. -/
theorem toInt_small (n : ℕ) (h : n < 2 ^ 31) : (BitVec.ofNat 32 n).toInt = n := by
  rw [BitVec.toInt_eq_toNat_of_lt] <;> simp [BitVec.toNat_ofNat] <;> omega

end Cert.Ema
-- ==== Proof.Tables.lean ====
/-
  The two tables that the host prepares for the kernel: the triangular table of weights and the table of powers of the
  decay, read entry by entry.
-/
module

public import proofs.«01_k».proof.Proof.SubValue
public import proofs.«01_k».proof.Proof.Power
public import proofs.«01_k».proof.Proof.Gen.KernelIdeal.Frame
public import Idealize.ShloMosaic.Lib.StableHlo.ReadAt
public import Idealize.ShloMosaic.Lib.Tactic.WordOmega

@[expose] public section

noncomputable section

namespace Cert.Ema

open Idealize.ShloMosaic Idealize.ShloMosaic.TcCoe Cert.KernelIdeal Cert.KernelIdeal.Gen

variable (m : (ℓ : Loc nD τ sig) → Buf (Elt Ideal) ℓ) (c : Dev nD)

/-- The first table holds the weights of a block. -/
theorem tri_table : IsTri (V m c main_call0_v18) := fun r j => by
  unfold V
  after_reads_at
  have hr : (r : ℕ) < 512 := r.isLt
  have hj : (j : ℕ) < 512 := j.isLt
  by_cases h : (j : ℕ) ≤ r
  · have hw : IntOp.subi (BitVec.ofNat 32 (r : ℕ)) (BitVec.ofNat 32 (j : ℕ)) = BitVec.ofNat 32 ((r : ℕ) - j) := by
      unfold IntOp.subi; word_omega
    have hc : IntOp.cmpi .sge (BitVec.ofNat 32 (r : ℕ)) (BitVec.ofNat 32 (j : ℕ)) = 1#1 := by
      simp only [IntOp.cmpi, BitVec.sle, toInt_small _ (by omega : (r : ℕ) < 2 ^ 31),
        toInt_small _ (by omega : (j : ℕ) < 2 ^ 31)]
      simp [h]
    have he : Ideal.ofBits .f32 0x3C23D70A#32 * ((decay ^ ((r : ℕ) - j) : ℝ) : EReal) = ((tri r j : ℝ) : EReal) := by
      rw [tri, if_pos h, ofBits_weight, ← EReal.coe_mul]
    rw [hw, hc, ← he]
    exact congrArg (Ideal.ofBits .f32 0x3C23D70A#32 * ·) (pow_word _ ((r : ℕ) - j) (toInt_small _ (by omega)))
  · have hc : IntOp.cmpi .sge (BitVec.ofNat 32 (r : ℕ)) (BitVec.ofNat 32 (j : ℕ)) = 0#1 := by
      simp only [IntOp.cmpi, BitVec.sle, toInt_small _ (by omega : (r : ℕ) < 2 ^ 31),
        toInt_small _ (by omega : (j : ℕ) < 2 ^ 31)]
      simp [h]
    rw [hc, tri, if_neg h]
    exact ofBits_sub0.trans (by norm_num)

/-- The second table holds the powers of the decay, one more than the row's number in every lane. -/
theorem pow_table : IsPow (V m c main_call0_v26) := fun r l => by
  unfold V
  after_reads_at
  have hr : (r : ℕ) < 512 := r.isLt
  refine pow_word _ _ ?_
  have hw : IntOp.addi (BitVec.ofNat 32 (r : ℕ)) 1#32 = BitVec.ofNat 32 ((r : ℕ) + 1) := by
    unfold IntOp.addi; word_omega
  rw [hw]
  exact toInt_small _ (by omega)

end Cert.Ema
-- ==== Proof.Input.lean ====
/-
  The input as real numbers, and what the precondition says of it: every entry is finite.
-/
module

public import proofs.«01_k».proof.Proof.SubValue
public import proofs.«01_k».proof.Pre_finite_x
public import proofs.«01_k».proof.Proof.Gen.Pre_finite_x

@[expose] public section

noncomputable section

namespace Cert.Ema

open Idealize.ShloMosaic Cert.Pre_finite_x

/-- An input array: sixteen sequences of 8192 rows of 512 lanes. -/
abbrev Input : Type := (⟨3, ![16, 8192, 512]⟩ : Shape).Idx → EReal

/-- Every entry of the input is a real number. -/
def Finite (x : Input) : Prop := ∀ i, x i = ((x i).toReal : EReal)

/-- Lane `l` of sequence `b` as a sequence of real numbers, zero past its last row. -/
def laneOf (x : Input) (b : Fin 16) (l : Fin 512) (n : ℕ) : ℝ :=
  if h : n < 8192 then (x (ix3 b ⟨n, h⟩ l)).toReal else 0

/-- A finite input at a row is its lane's real number there. -/
theorem laneOf_coe {x : Input} (hx : Finite x) (b : Fin 16) (t : Fin 8192) (l : Fin 512) :
    x (ix3 b t l) = (laneOf x b l t : EReal) := by
  rw [laneOf, dif_pos t.isLt]; exact hx _

/-- The precondition says that the input is finite. -/
theorem finite_of_pre [Facts] (x : Input) (ga be : (⟨2, ![1, 512]⟩ : Shape).Idx → EReal)
    (h : fn (F := Ideal) x ga be = fun _ => 1#1) : Finite x := fun i => by
  have hi := congrFun h i
  pointwise [fn] at hi
  have ht : Ideal.ofBits .f32 0x7F800000#32 = (⊤ : EReal) := by simp [Ideal.ofBits, Ideal.ieee]
  rw [ht] at hi
  have hlt : FloatOps.absf (F := Ideal) (φ := .f32) (x i) < (⊤ : EReal) := by
    by_contra hc
    rw [decide_eq_false hc] at hi
    exact absurd hi (by decide)
  have hlt : max (x i) (-(x i)) < ⊤ := hlt
  refine (EReal.coe_toReal ?_ ?_).symm
  · exact fun hc => by simp [hc] at hlt
  · exact fun hc => by simp [hc] at hlt

end Cert.Ema
-- ==== Proof.Fold.lean ====
/-
  The kernel's result, entry by entry: the blocks that each grid point reads, what each leaves, and the array that the
  points write together.
-/
module

public import proofs.«01_k».proof.Proof.Body
public import proofs.«01_k».proof.Proof.Tables
public import proofs.«01_k».proof.Proof.Input
public import proofs.«01_k».proof.Proof.Gen.KernelIdeal.Value

@[expose] public section

set_option maxRecDepth 16384

noncomputable section

namespace Cert.Ema

open Idealize.ShloMosaic Idealize.ShloMosaic.TcCoe Cert.KernelIdeal Cert.KernelIdeal.Gen Cert.KernelIdeal.Value

variable (m : (ℓ : Loc nD τ sig) → Buf (Elt Ideal) ℓ) (c : Dev nD)

/-- The kernel's input, scale and shift arrays. -/
abbrev arg0 : Input := m ((c.tc : Thread nD τ).loc main_arg0)
abbrev arg1 : (⟨2, ![1, 512]⟩ : Shape).Idx → EReal := m ((c.tc : Thread nD τ).loc main_arg1)
abbrev arg2 : (⟨2, ![1, 512]⟩ : Shape).Idx → EReal := m ((c.tc : Thread nD τ).loc main_arg2)

/-- Where each window's block lies: a grid point takes one half of one sequence, and every table whole. -/
theorem window_index : ∀ t : Fin cfg0.N,
    (win0_0.index t (0 : Fin 3) = t.val / 2 ∧ win0_0.index t (1 : Fin 3) = t.val % 2 ∧ win0_0.index t (2 : Fin 3) = 0)
    ∧ (∀ a : Fin 2, win0_1.index t a = 0) ∧ (∀ a : Fin 2, win0_2.index t a = 0) ∧ (∀ a : Fin 2, win0_3.index t a = 0)
    ∧ (∀ a : Fin 2, win0_4.index t a = 0) ∧ (grid0.coords t 1).val = t.val % 2 :=
  (by decide +kernel : ∀ t : Fin grid0.N, _)

/-- The block of the input. -/
theorem block_input (t : Fin cfg0.N) (b : Fin 16) (hb : (b : ℕ) = t.val / 2) (hx : Finite (arg0 m c)) :
    IsBlock (laneOf (arg0 m c) b) (4096 * (t.val % 2)) (iblk m c 0 t) := fun r l => by
  obtain ⟨⟨e0, e1, e2⟩, -⟩ := window_index t
  have hr : (r : ℕ) < 4096 := r.isLt
  have hT : 4096 * (t.val % 2) + r < 8192 := by omega
  rw [← laneOf_coe hx b ⟨_, hT⟩ l]
  unfold iblk
  rw [View.read_apply]
  show V m c main_arg0 _ = m ((c.tc : Thread nD τ).loc main_arg0) _
  rw [V_main_arg0 m c]
  refine congrArg (m ((c.tc : Thread nD τ).loc main_arg0)) (funext fun a => Fin.ext ?_)
  match a with
  | ⟨0, _⟩ => show win0_0.index t (0 : Fin 3) * 1 + 1 * 0 = (b : ℕ); omega
  | ⟨1, _⟩ => show win0_0.index t (1 : Fin 3) * 4096 + 1 * (r : ℕ) = 4096 * (t.val % 2) + r; omega
  | ⟨2, _⟩ => show win0_0.index t (2 : Fin 3) * 512 + 1 * (l : ℕ) = l; omega

/-- The block of the triangular table is the table. -/
theorem block_tri (t : Fin cfg0.N) : IsTri (iblk m c 1 t) := fun r j => by
  obtain ⟨-, e, -⟩ := window_index t
  rw [← tri_table m c r j]
  unfold iblk
  rw [View.read_apply]
  show V m c main_call0_v18 _ = V m c main_call0_v18 _
  refine congrArg (V m c main_call0_v18) (funext fun a => Fin.ext ?_)
  match a with
  | ⟨0, _⟩ => show win0_1.index t (0 : Fin 2) * 512 + 1 * (r : ℕ) = r; have := e 0; omega
  | ⟨1, _⟩ => show win0_1.index t (1 : Fin 2) * 512 + 1 * (j : ℕ) = j; have := e 1; omega

/-- The block of the table of powers is the table. -/
theorem block_pow (t : Fin cfg0.N) : IsPow (iblk m c 2 t) := fun r l => by
  obtain ⟨-, -, e, -⟩ := window_index t
  rw [← pow_table m c r l]
  unfold iblk
  rw [View.read_apply]
  show V m c main_call0_v26 _ = V m c main_call0_v26 _
  refine congrArg (V m c main_call0_v26) (funext fun a => Fin.ext ?_)
  match a with
  | ⟨0, _⟩ => show win0_2.index t (0 : Fin 2) * 512 + 1 * (r : ℕ) = r; have := e 0; omega
  | ⟨1, _⟩ => show win0_2.index t (1 : Fin 2) * 512 + 1 * (l : ℕ) = l; have := e 1; omega

/-- The block of the scale is the scale. -/
theorem block_scale (t : Fin cfg0.N) (l : Fin 512) : iblk m c 3 t (ix2 0 l) = arg1 m c (ix2 0 l) := by
  obtain ⟨-, -, -, e, -⟩ := window_index t
  unfold iblk
  rw [View.read_apply]
  show V m c main_arg1 _ = m ((c.tc : Thread nD τ).loc main_arg1) _
  rw [V_main_arg1 m c]
  refine congrArg (m ((c.tc : Thread nD τ).loc main_arg1)) (funext fun a => Fin.ext ?_)
  match a with
  | ⟨0, _⟩ => show win0_3.index t (0 : Fin 2) * 1 + 1 * 0 = 0; have := e 0; omega
  | ⟨1, _⟩ => show win0_3.index t (1 : Fin 2) * 512 + 1 * (l : ℕ) = l; have := e 1; omega

/-- The block of the shift is the shift. -/
theorem block_shift (t : Fin cfg0.N) (l : Fin 512) : iblk m c 4 t (ix2 0 l) = arg2 m c (ix2 0 l) := by
  obtain ⟨-, -, -, -, e, -⟩ := window_index t
  unfold iblk
  rw [View.read_apply]
  show V m c main_arg2 _ = m ((c.tc : Thread nD τ).loc main_arg2) _
  rw [V_main_arg2 m c]
  refine congrArg (m ((c.tc : Thread nD τ).loc main_arg2)) (funext fun a => Fin.ext ?_)
  match a with
  | ⟨0, _⟩ => show win0_4.index t (0 : Fin 2) * 1 + 1 * 0 = 0; have := e 0; omega
  | ⟨1, _⟩ => show win0_4.index t (1 : Fin 2) * 512 + 1 * (l : ℕ) = l; have := e 1; omega

/-- What a point of the first half of sequence `b` leaves, over whatever it finds: the first 4096 rows. -/
theorem first_rows (t : Fin cfg0.N) (h0 : t.val % 2 = 0) (b : Fin 16) (hb : (b : ℕ) = t.val / 2)
    (hx : Finite (arg0 m c)) (acc : Vec Ideal S1x4096x512 .f32 × Vec Ideal S1x512 .f32) (r : Fin 4096) (l : Fin 512) :
    (stAt0 m c t.val t.isLt acc).1 (ix3 0 r l)
      = target (laneOf (arg0 m c) b) (arg1 m c (ix2 0 l)) (arg2 m c (ix2 0 l)) r l := by
  have hi : (grid0.coords t 1).val = 0 := ((window_index t).2.2.2.2.2).trans h0
  have hX : IsBlock (laneOf (arg0 m c) b) 0 (iblk m c 0 t) := by
    have h := block_input m c t b hb hx
    rwa [h0, Nat.mul_zero] at h
  have h := out_A (X := laneOf (arg0 m c) b) (x0 := iblk m c 0 t) (x1 := iblk m c 1 t) (x2 := iblk m c 2 t)
      (x3 := iblk m c 3 t) (x4 := iblk m c 4 t) c (grid0.coords t) (ms0_0 t) (hs0_0 t) (ms0_1 t) (hs0_1 t)
      (ms0_2 t) (hs0_2 t) (ms0_3 t) (hs0_3 t) (ms0_4 t) (hs0_4 t) (ms0_5 t) (hs0_5 t) scM0_0 (Memref.isWhole_whole _)
      ((hcond0_0 t).mpr h0) hi (block_tri m c t) (block_pow m c t) hX r l
  have he := congrFun (congrArg Prod.fst (stAt0_A m c t acc h0)) (ix3 0 r l)
  rw [he]
  dsimp only
  rw [h, block_scale m c t l, block_shift m c t l]

/-- … and the average of those rows. -/
theorem first_average (t : Fin cfg0.N) (h0 : t.val % 2 = 0) (b : Fin 16) (hb : (b : ℕ) = t.val / 2)
    (hx : Finite (arg0 m c)) (acc : Vec Ideal S1x4096x512 .f32 × Vec Ideal S1x512 .f32) :
    IsAvg (laneOf (arg0 m c) b) 4096 (stAt0 m c t.val t.isLt acc).2 := by
  have hX : IsBlock (laneOf (arg0 m c) b) 0 (iblk m c 0 t) := by
    have h := block_input m c t b hb hx
    rwa [h0, Nat.mul_zero] at h
  have h := next_A (X := laneOf (arg0 m c) b) (x0 := iblk m c 0 t) (x1 := iblk m c 1 t) (x2 := iblk m c 2 t)
      (x3 := iblk m c 3 t) (x4 := iblk m c 4 t) c (grid0.coords t) (ms0_0 t) (hs0_0 t) (ms0_1 t) (hs0_1 t)
      (ms0_2 t) (hs0_2 t) (ms0_3 t) (hs0_3 t) (ms0_4 t) (hs0_4 t) (ms0_5 t) (hs0_5 t) scM0_0 (Memref.isWhole_whole _)
      ((hcond0_0 t).mpr h0) (block_tri m c t) (block_pow m c t) hX
  intro l
  have he := congrFun (congrArg Prod.snd (stAt0_A m c t acc h0)) (ix2 0 l)
  rw [he]
  dsimp only
  rw [h l]

/-- What a point of the second half leaves, over the average of the first: the last 4096 rows. -/
theorem second_rows (t : Fin cfg0.N) (h0 : t.val % 2 = 1) (b : Fin 16) (hb : (b : ℕ) = t.val / 2)
    (hx : Finite (arg0 m c)) (acc : Vec Ideal S1x4096x512 .f32 × Vec Ideal S1x512 .f32)
    (hacc : IsAvg (laneOf (arg0 m c) b) 4096 acc.2) (r : Fin 4096) (l : Fin 512) :
    (stAt0 m c t.val t.isLt acc).1 (ix3 0 r l)
      = target (laneOf (arg0 m c) b) (arg1 m c (ix2 0 l)) (arg2 m c (ix2 0 l)) (4096 + r) l := by
  have hi : (grid0.coords t 1).val = 1 := ((window_index t).2.2.2.2.2).trans h0
  have h1 : ¬ t.val % 2 = 0 := by omega
  have hX : IsBlock (laneOf (arg0 m c) b) 4096 (iblk m c 0 t) := by
    have h := block_input m c t b hb hx
    rwa [h0, Nat.mul_one] at h
  have h := out_B (X := laneOf (arg0 m c) b) (x0 := iblk m c 0 t) (x1 := iblk m c 1 t) (x2 := iblk m c 2 t)
      (x3 := iblk m c 3 t) (x4 := iblk m c 4 t) (xs0 := acc.2) c (grid0.coords t) (ms0_0 t) (hs0_0 t) (ms0_1 t) (hs0_1 t)
      (ms0_2 t) (hs0_2 t) (ms0_3 t) (hs0_3 t) (ms0_4 t) (hs0_4 t) (ms0_5 t) (hs0_5 t) scM0_0 (Memref.isWhole_whole _)
      (fun h => h1 ((hcond0_0 t).mp h)) hi (block_tri m c t) (block_pow m c t) hacc hX r l
  have he := congrFun (congrArg Prod.fst (stAt0_B m c t acc h1)) (ix3 0 r l)
  rw [he]
  dsimp only
  rw [h, block_scale m c t l, block_shift m c t l]

/-- What the run holds after a point of the second half is that point's step over what the point before left. -/
theorem outs_succ (n : ℕ) (hn : n + 1 < cfg0.N) :
    outsAt0 m c (n + 1) hn = stAt0 m c (⟨n + 1, hn⟩ : Fin cfg0.N).val (⟨n + 1, hn⟩ : Fin cfg0.N).isLt
      (outsAt0 m c n (Nat.lt_of_succ_lt hn)) := outsAt0_succ m c n hn

/-- What the run holds after any point is that point's step over something. -/
theorem outs_step (t : Fin cfg0.N) : ∃ acc, outsAt0 m c t.val t.isLt = stAt0 m c t.val t.isLt acc := by
  obtain ⟨n, hn⟩ := t
  cases n with
  | zero => exact ⟨_, outsAt0_zero m c hn⟩
  | succ n => exact ⟨_, outsAt0_succ m c n hn⟩

/-- The rows that point `t` leaves: one half of a sequence. -/
theorem rows_value (t : Fin cfg0.N) (b : Fin 16) (hb : (b : ℕ) = t.val / 2) (hx : Finite (arg0 m c))
    (r : Fin 4096) (l : Fin 512) :
    (outsAt0 m c t.val t.isLt).1 (ix3 0 r l) = target (laneOf (arg0 m c) b) (arg1 m c (ix2 0 l)) (arg2 m c (ix2 0 l))
      (4096 * (t.val % 2) + r) l := by
  by_cases h0 : t.val % 2 = 0
  · obtain ⟨acc, he⟩ := outs_step m c t
    rw [he, first_rows m c t h0 b hb hx acc r l, h0, Nat.mul_zero, Nat.zero_add]
  · obtain ⟨n, hn⟩ := t
    simp only at h0 hb
    obtain ⟨n, rfl⟩ : ∃ k, n = k + 1 := ⟨n - 1, by omega⟩
    have h1 : (n + 1) % 2 = 1 := by omega
    obtain ⟨acc, he⟩ := outs_step m c ⟨n, Nat.lt_of_succ_lt hn⟩
    have hacc := first_average m c ⟨n, Nat.lt_of_succ_lt hn⟩ (by show n % 2 = 0; omega) b (by show (b : ℕ) = n / 2; omega) hx acc
    rw [← he] at hacc
    have h := second_rows m c ⟨n + 1, hn⟩ h1 b hb hx _ hacc r l
    rw [← outs_succ] at h
    rw [h]
    simp only [h1, Nat.mul_one]

/-- The kernel's result at row `T`, lane `l` of sequence `b`. -/
theorem kernel_value (hx : Finite (arg0 m c)) (b : Fin 16) (T : Fin 8192) (l : Fin 512) :
    G5 m c (ix3 b T l) = target (laneOf (arg0 m c) b) (arg1 m c (ix2 0 l)) (arg2 m c (ix2 0 l)) T l := by
  have hN : cfg0.N = 32 := N_0
  have hT : (T : ℕ) < 8192 := T.isLt
  have hl : (l : ℕ) < 512 := l.isLt
  have hp : pt5Of (ix3 b T l) = 2 * (b : ℕ) + (T : ℕ) / 4096 := by
    show 2 * ((b : ℕ) / 1 - 0) + 1 * ((T : ℕ) / 4096 - 0) + 1 * ((l : ℕ) / 512 - 0) = _
    omega
  have hlt : pt5Of (ix3 b T l) < cfg0.N := by rw [hp, hN]; omega
  have hloc : loc5Of (ix3 b T l) = ix3 0 ⟨(T : ℕ) % 4096, Nat.mod_lt _ (by decide)⟩ l := by
    funext a
    refine Fin.ext ?_
    match a with
    | ⟨0, _⟩ => exact Nat.mod_one _
    | ⟨1, _⟩ => rfl
    | ⟨2, _⟩ => exact Nat.mod_eq_of_lt hl
  have h := rows_value m c ⟨_, hlt⟩ b (by show (b : ℕ) = pt5Of (ix3 b T l) / 2; rw [hp]; omega) hx
    ⟨(T : ℕ) % 4096, Nat.mod_lt _ (by decide)⟩ l
  unfold G5
  rw [dif_pos hlt, ← outsAt0_sweep m c _ hlt, hloc, h]
  congr 1
  show 4096 * (pt5Of (ix3 b T l) % 2) + (T : ℕ) % 4096 = T
  rw [hp]; omega

end Cert.Ema
-- ==== Proof.RefTrip.lean ====
/-
  One trip of the reference's loop over the rows, read entry by entry: it takes row `j` of the input, forms the next
  average and stores it as row `j` of the output.
-/
module

public import proofs.«01_k».proof.Proof.Gen.ReferenceIdeal.Run
public import proofs.«01_k».proof.Proof.SubValue
public import Idealize.ShloMosaic.Lib.WordCmp

@[expose] public section

set_option maxRecDepth 16384

noncomputable section

namespace Cert.Ema.Ref

open Idealize.ShloMosaic Idealize.ShloMosaic.WordCmp Idealize.ShloMosaic.TcCoe Cert.ReferenceIdeal Cert.ReferenceIdeal.Gen Cert.ReferenceIdeal.Value

/-- The starts of row `j` in a stack of rows, as the loop's counter gives them. -/
theorem row_start (j : ℕ) (hj : j < 8192) (k : Fin 3) :
    ((![constantI S_ 32 (BitVec.ofNat 32 j), constantI S_ 32 0#32, constantI S_ 32 0#32] :
      Fin 3 → (⟨S_, .i32⟩ : BufTy).Contents (Elt Ideal)) k (Shape.Idx.first h_S_)).toInt = ((![j, 0, 0] k : ℕ) : ℤ) := by
  fin_cases k
  · exact toInt_ofNat_of_lt (by omega)
  · rfl
  · rfl

/-- Row `j` lies inside the stack. -/
theorem row_slices (j : ℕ) (hj : j < 8192) : S8192x16x512.Slices ![j, 0, 0] S1x16x512 := by
  refine ⟨rfl, fun a => ?_⟩
  fin_cases a
  · show j + 1 ≤ 8192; omega
  · show 0 + 16 ≤ 16; omega
  · show 0 + 512 ≤ 512; omega

variable {V : Valuation τ sig (Elt Ideal)} {j : ℕ}

/-- The row that the trip reads is row `j` of the input. -/
theorem row_read (hj : j < 8192) (h : V (Proc.devRef .tc main_v3_1) = constantI S_ 32 (BitVec.ofNat 32 j))
    (b : Fin 16) (l : Fin 512) :
    (res_main_while0b_v37 V) (ix2 b l) = V (Proc.devRef .tc main_v3_0) (ix3 ⟨j, hj⟩ b l) := by
  unfold res_main_while0b_v37
  rw [h, dynamicSlice_eq_extract _ _ _ _ (![j, 0, 0]) (row_slices j hj) (row_start j hj)]
  pointwise []

/-- The average that the trip forms. -/
theorem avg_next (b : Fin 16) (l : Fin 512) (a u : ℝ)
    (ha : V (Proc.devRef .tc main_v3_2) (ix2 b l) = (a : EReal))
    (hu : (res_main_while0b_v37 V) (ix2 b l) = (u : EReal)) :
    res_main_while0b_v44 V (ix2 b l) = ((decay * a + weight * u * u : ℝ) : EReal) := by
  pointwise [res_main_while0b_v44]
  rw [ha, hu, EReal.coe_add, EReal.coe_mul, EReal.coe_mul, EReal.coe_mul, ← div_decay, ← ofBits_weight]

/-- The stack of averages after the trip: row `j` is the new average, every other row is as it was. -/
theorem stack_next (hj : j < 8192) (h : V (Proc.devRef .tc main_v3_1) = constantI S_ 32 (BitVec.ofNat 32 j))
    (t : Fin 8192) (b : Fin 16) (l : Fin 512) :
    step_main_v3_3 V (ix3 t b l) = if (t : ℕ) = j then res_main_while0b_v44 V (ix2 b l)
      else V (Proc.devRef .tc main_v3_3) (ix3 t b l) := by
  unfold step_main_v3_3
  rw [h, dynamicUpdateSlice_eq_update _ _ _ _ (![j, 0, 0]) (row_slices j hj) (row_start j hj)]
  show updateSlice _ _ _ _ _ = _
  unfold updateSlice
  by_cases hc : (t : ℕ) = j
  · rw [if_pos hc, dif_pos (by
      intro a; fin_cases a
      · show j ≤ (t : ℕ) ∧ (t : ℕ) < j + 1; omega
      · exact ⟨Nat.zero_le _, b.isLt⟩
      · exact ⟨Nat.zero_le _, l.isLt⟩)]
    show res_main_while0b_v44 V _ = _
    refine congrArg (res_main_while0b_v44 V) (funext fun a => Fin.ext ?_)
    fin_cases a <;> rfl
  · rw [if_neg hc, dif_neg (fun hin => by
      have : j ≤ (t : ℕ) ∧ (t : ℕ) < j + 1 := hin 0
      omega)]

end Cert.Ema.Ref
-- ==== Proof.RefLoop.lean ====
/-
  The reference's loop over the rows: after `n` trips it holds the average of the first `n` rows, and the averages after
  each of them.
-/
module

public import proofs.«01_k».proof.Proof.RefTrip
public import proofs.«01_k».proof.Proof.Input
public import Idealize.ShloMosaic.Lib.Tactic.WordOmega

@[expose] public section

set_option maxRecDepth 16384

noncomputable section

namespace Cert.Ema.Ref

open Idealize.ShloMosaic Idealize.ShloMosaic.TcCoe Idealize.ShloMosaic.StableHlo
open Cert.ReferenceIdeal Cert.ReferenceIdeal.Gen Cert.ReferenceIdeal.Value

/-- What the loop's buffers hold after `n` trips over the input `x`. -/
structure After (x : Input) (n : ℕ) (V : Valuation τ sig (Elt Ideal)) : Prop where
  /-- The loop's counter. -/
  counter : V (Proc.devRef .tc main_v3_1) = constantI S_ 32 (BitVec.ofNat 32 n)
  /-- The input, row by row. -/
  input : ∀ t b l, V (Proc.devRef .tc main_v3_0) (ix3 t b l) = (laneOf x b l (t : Fin 8192) : EReal)
  /-- The average of the rows so far. -/
  average : ∀ b l, V (Proc.devRef .tc main_v3_2) (ix2 b l) = (ema (laneOf x b l) n : EReal)
  /-- The averages after each of them. -/
  stack : ∀ t b l, (t : Fin 8192).val < n →
    V (Proc.devRef .tc main_v3_3) (ix3 t b l) = (ema (laneOf x b l) (t + 1) : EReal)

/-- A trip takes the buffers from one row to the next. -/
theorem After.trip {x : Input} {n : ℕ} {V : Valuation τ sig (Elt Ideal)} (h : After x n V) (hn : n < 8192) :
    After x (n + 1) (STEP V) := by
  have hv : ∀ b l, res_main_while0b_v44 V (ix2 b l) = (ema (laneOf x b l) (n + 1) : EReal) := fun b l =>
    avg_next b l _ _ (h.average b l) ((row_read hn h.counter b l).trans (h.input ⟨n, hn⟩ b l))
  refine ⟨?_, ?_, ?_, ?_⟩
  · rw [STEP_main_v3_1, step_main_v3_1, h.counter]
    funext i
    show IntOp.addi (BitVec.ofNat 32 n) 1#32 = BitVec.ofNat 32 (n + 1)
    unfold IntOp.addi; word_omega
  · intro t b l
    rw [STEP_main_v3_0]; exact h.input t b l
  · intro b l
    rw [STEP_main_v3_2]; exact hv b l
  · intro t b l ht
    rw [STEP_main_v3_3, stack_next hn h.counter]
    split
    · next e => rw [e]; exact hv b l
    · next e => exact h.stack t b l (by omega)

variable (m : (ℓ : Loc nD τ sig) → Buf (Elt Ideal) ℓ) (c : Dev nD)

/-- The input array of the reference. -/
abbrev arg0 : Input := m ((c.tc : Thread nD τ).loc main_arg0)

/-- What the buffers hold before the first trip. -/
theorem after_zero (hx : Finite (arg0 m c)) : After (arg0 m c) 0 (entryContents preI m c) := by
  refine ⟨?_, ?_, ?_, ?_⟩
  · simp only [entryContents, afterL_cons, afterL_nil]; after_reads_simp
    rfl
  · intro t b l
    rw [← laneOf_coe hx]
    simp only [entryContents, afterL_cons, afterL_nil]; after_reads_simp
    show transpose S8192x16x512 [1, 0, 2] (arg0 m c) transposes_S16x8192x512_S8192x16x512_1_0_2 (ix3 t b l) = _
    pointwise []
  · intro b l
    simp only [entryContents, afterL_cons, afterL_nil]; after_reads_simp
    exact ofBits_start
  · intro t b l ht
    exact absurd ht (Nat.not_lt_zero _)

/-- What they hold after `n` trips. -/
theorem after_trips (hx : Finite (arg0 m c)) : ∀ n ≤ 8192, After (arg0 m c) n (STEP^[n] (entryContents preI m c))
  | 0, _ => after_zero m c hx
  | n + 1, hn => by
    rw [Function.iterate_succ_apply']
    exact (after_trips hx n (by omega)).trip (by omega)

end Cert.Ema.Ref
-- ==== Proof.RefValue.lean ====
/-
  The reference's result, entry by entry: the normalised row, scaled, shifted and added to the input.
-/
module

public import proofs.«01_k».proof.Proof.RefLoop
public import proofs.«01_k».proof.Proof.Power

@[expose] public section

set_option maxRecDepth 16384

noncomputable section

namespace Cert.Ema.Ref

open Idealize.ShloMosaic Idealize.ShloMosaic.TcCoe Idealize.ShloMosaic.StableHlo
open Cert.ReferenceIdeal Cert.ReferenceIdeal.Gen Cert.ReferenceIdeal.Value

/-- The power of the decay that the reference takes at row `t`. -/
theorem row_power (t : Fin 8192) :
    Ideal.pow (Ideal.div (Ideal.ofBits .f32 0x42C60000#32) (Ideal.ofBits .f32 0x42C80000#32))
      (1 + FloatOps.sitofp (F := Ideal) .f32 (BitVec.ofNat 32 (t : ℕ))) = ((decay ^ ((t : ℕ) + 1) : ℝ) : EReal) := by
  have ht : (BitVec.ofNat 32 (t : ℕ)).toInt = (t : ℕ) := toInt_small _ (by have := t.isLt; omega)
  have he : (1 : EReal) + FloatOps.sitofp (F := Ideal) .f32 (BitVec.ofNat 32 (t : ℕ)) = (((t : ℕ) + 1 : ℕ) : ℝ) := by
    show ((1 : ℝ) : EReal) + (((BitVec.ofNat 32 (t : ℕ)).toInt : ℝ) : EReal) = _
    rw [ht, ← EReal.coe_add]
    push_cast
    rw [add_comm]
  rw [he, div_decay, Ideal.pow_coe_coe]
  exact congrArg _ (Real.rpow_natCast _ _)

/-- The root of the corrected average, as the reference forms it from the average `e` of row `t`. -/
theorem root_ref (X : Fin 512 → ℕ → ℝ) (t : Fin 8192) (l : Fin 512) (e : EReal) (he : e = (ema (X l) (t + 1) : EReal)) :
    Ideal.sqrt (Ideal.div e (1 - Ideal.pow (Ideal.div (Ideal.ofBits .f32 0x42C60000#32) (Ideal.ofBits .f32 0x42C80000#32))
        (1 + FloatOps.sitofp (F := Ideal) .f32 (BitVec.ofNat 32 (t : ℕ))) + Ideal.ofBits .f32 0x358637BD#32)
      + Ideal.ofBits .f32 0x358637BD#32) = (root X t l : EReal) := by
  have hd := denom_pos ((t : ℕ) + 1)
  have hs : (1 : ℝ) - decay ^ ((t : ℕ) + 1) + eps = 1 + eps - decay ^ ((t : ℕ) + 1) := by ring
  rw [he, row_power, ofBits_eps, show (1 : EReal) = ((1 : ℝ) : EReal) from rfl, ← EReal.coe_sub, ← EReal.coe_add, hs,
    coe_div _ _ hd.ne', ← EReal.coe_add]
  exact if_neg (not_lt.mpr (corrected_pos (X l) t).le)

/-- The reference's result at row `t`, lane `l` of sequence `b`. -/
theorem result_value {x : Input} (hx : Finite x) {V : Valuation τ sig (Elt Ideal)} (h : After x 8192 V)
    (hx0 : V (Proc.devRef .tc main_arg0) = x) (b : Fin 16) (t : Fin 8192) (l : Fin 512) :
    out_main_v36 V (ix3 b t l) = target (laneOf x b) (V (Proc.devRef .tc main_arg1) (ix2 0 l))
      (V (Proc.devRef .tc main_arg2) (ix2 0 l)) t l := by
  have hr : ∀ k, _ := fun k => root_ref (laneOf x b) t k _ (h.stack t b k t.isLt)
  pointwise [out_main_v36]
  have hp := rowDiv_pos (laneOf x b) t
  have hq : Ideal.div (∑ k, ((root (laneOf x b) t k : ℝ) : EReal)) (Ideal.ofBits .f32 0x44000000#32)
      + Ideal.ofBits .f32 0x358637BD#32 = (rowDiv (laneOf x b) t : EReal) := by
    rw [coe_sum, ofBits_lanes, ofBits_eps, coe_div _ _ (by norm_num), ← EReal.coe_add]; rfl
  rw [Finset.sum_congr rfl (fun k _ => hr k), hq, hr l, coe_div _ _ hp.ne', hx0, laneOf_coe hx]
  rfl

end Cert.Ema.Ref
-- ==== Proof.Equal.lean ====
/-
  The two programs end with the same result: entry by entry, both are the normalised row of the moving average.
-/
module

public import proofs.«01_k».proof.Defs
public import proofs.«01_k».proof.Proof.Fold
public import proofs.«01_k».proof.Proof.RefValue

@[expose] public section

noncomputable section

namespace Cert.Ema

open Idealize.ShloMosaic Idealize.ShloMosaic.TcCoe Idealize.ShloMosaic.StableHlo Idealize.SL.Sem

/-- The result of the reference, from arguments that agree with the kernel's, is the kernel's. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hx : Finite (arg0 m c)) (h0 : Ref.arg0 m' c = arg0 m c)
    (h1 : m' ((c.tc : Thread Cert.ReferenceIdeal.nD Cert.ReferenceIdeal.τ).loc Cert.ReferenceIdeal.main_arg1) = arg1 m c)
    (h2 : m' ((c.tc : Thread Cert.ReferenceIdeal.nD Cert.ReferenceIdeal.τ).loc Cert.ReferenceIdeal.main_arg2) = arg2 m c) :
    Cert.ReferenceIdeal.Value.out_main_v36 (Cert.ReferenceIdeal.Value.STEP^[8192]
      (entryContents Cert.ReferenceIdeal.Value.preI m' c)) = Cert.KernelIdeal.Value.G5 m c := by
  have hx' : Finite (Ref.arg0 m' c) := by rw [h0]; exact hx
  funext i
  rw [← ix3_eta i]
  refine (Ref.result_value hx' (Ref.after_trips m' c hx' 8192 le_rfl)
    (Cert.ReferenceIdeal.Value.iter_main_arg0 m' c 8192) _ _ _).trans ?_
  rw [Cert.ReferenceIdeal.Value.iter_main_arg1 m' c 8192, Cert.ReferenceIdeal.Value.iter_main_arg2 m' c 8192, h0, h1, h2]
  exact (kernel_value m c hx _ _ _).symm

/-- The kernel and the reference, over the extended reals and from agreeing arguments with a finite input, end with equal
    results. -/
theorem equal : Cert.algebraic_KernelIdeal_ReferenceIdeal_pre_finite_x (hKernelIdeal := Cert.KernelIdeal.Gen.facts)
    (hReferenceIdeal := Cert.ReferenceIdeal.Gen.facts) (hPre_finite_x := Cert.Pre_finite_x.Gen.facts) := by
  intro m ρ m' ρ' hpre hagree
  refine ⟨_, Cert.KernelIdeal.Value.run (F := Ideal) m ρ, ?_⟩
  refine (θ_run _ _ _).mono (fun _ h c => ⟨(h c).1.trans ?_, (h c).2⟩) (Cert.ReferenceIdeal.Value.run (F := Ideal) m' ρ')
  obtain ⟨h0, h1, h2⟩ := hagree c
  exact results_equal m m' c (finite_of_pre _ _ _ (hpre c)) h0 h1 h2

end Cert.Ema
-- ==== Proof.lean ====
/-
  The claim about the kernel: it and its idealization run and leave their arguments unchanged, so does the reference,
  the idealization is the sanctioned one, and over the extended reals the idealized kernel and the reference end with
  equal results on every finite input.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite_x
public import proofs.«01_k».proof.Proof.Equal
public import Idealize.ShloMosaic.Lib.Quiescent
public import Idealize.ShloMosaic.Lib.Tactic.ValueTie
public import Idealize.ShloMosaic.Adequacy
public import Idealize.ShloMosaic.Init

@[expose] public section

noncomputable section

namespace Cert.Proof

open Idealize.ShloMosaic Idealize.SL.Sem

/-- The reference runs, leaves its arguments unchanged and has no semaphore. -/
theorem reference_runs (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Everything that is claimed. -/
theorem claim : Cert.Claim :=
  ⟨Cert.Kernel.Gen.facts, Cert.KernelIdeal.Gen.facts, Cert.ReferenceIdeal.Gen.facts, Cert.Pre_finite_x.Gen.facts,
    fun m ρ _ => Cert.Kernel.Gen.frame m ρ, fun m ρ _ => Cert.KernelIdeal.Gen.frame m ρ,
    fun m ρ _ => Cert.KernelIdeal.Gen.frame m ρ, fun m ρ _ => reference_runs m ρ, fun m ρ _ => reference_runs m ρ,
    IdealRules.named_const.statement Cert.KernelIdeal.κ "chunk_rate" .f32 0xC0A4AA2A#32
      ((512 * (Real.log (99 / 100)) : ℝ) : EReal) rfl,
    Cert.Ema.equal⟩

end Cert.Proof

end
